-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
-- ==== Pre_within_clip_KernelIdeal.lean ====
abbrev S256x4096 : Shape := ⟨2, ![256, 4096]⟩
abbrev S4096x8192 : Shape := ⟨2, ![4096, 8192]⟩
abbrev S256x8192 : Shape := ⟨2, ![256, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  dot_S256x4096_S4096x8192_S256x8192_1_0_0_1_n_n_wf : DotDims.WF S256x4096 S4096x8192 S256x8192 [1] [0] [0] [1] [] []

variable [Facts]

def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def fn {F : FTy → Type} [FloatOps F] (main_arg0 : FVec F S256x4096 .f32) (main_arg1 : FVec F S4096x8192 .f32) : IVec S_ 1 :=
  let main_v0 : FVec F S256x8192 .f32 := (fun l r => Host.dotGeneral dot_S256x4096_S4096x8192_S256x8192_1_0_0_1_n_n none l r) main_arg0 main_arg1
  let main_v1 : FVec F S256x8192 .f32 := Host.absf main_v0
  let main_cst : FVec F S_ .f32 := constant S_ .f32 0x42700000#32
  let main_v2 : FVec F S256x8192 .f32 := broadcastInDim S256x8192 ![] bcast_S_S256x8192 main_cst
  let main_v3 : IVec S256x8192 1 := cmpf .ole main_v1 main_v2
  let main_c : IVec S_ 1 := constantI S_ 1 1#1
  let main_v4 : IVec S_ 1 := (fun x v => Host.reduce IntOp.andi x v reducesTo_S256x8192_S_d0_1 h_S_) main_v3 main_c
  main_v4
-- ==== Pre_within_clip_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S_ 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x42700000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Kernel.lean ====
abbrev S256x4096 : Shape := ⟨2, ![256, 4096]⟩
abbrev S4096x8192 : Shape := ⟨2, ![4096, 8192]⟩
abbrev S16 : Shape := ⟨1, ![16]⟩
abbrev S_ : Shape := ⟨0, ![]⟩
abbrev S1 : Shape := ⟨1, ![1]⟩
abbrev S17 : Shape := ⟨1, ![17]⟩
abbrev S4096x512 : Shape := ⟨2, ![4096, 512]⟩
abbrev S4x256x512 : Shape := ⟨3, ![4, 256, 512]⟩
abbrev S4 : Shape := ⟨1, ![4]⟩
abbrev S1x256x512 : Shape := ⟨3, ![1, 256, 512]⟩
abbrev S256x512 : Shape := ⟨2, ![256, 512]⟩

abbrev nBuf : Space → Nat
  | .hbm => 11
  | .vmem => 5
  | .smem => 1
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S4x256x512, .f32⟩
  | .local _ .smem, ⟨0, _⟩ => ⟨S17, .i32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v7 : Ref sig .tc := ⟨.hbm, 10, rfl⟩
abbrev main_v6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v1 : BitVec 32 := Scalar.addi arg0 c1_i32
  let v2 : Index := Scalar.indexCast v1
  ![v2.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_dev1 : Nat :=
  let c0_i32_11 : BitVec 32 := 0#32
  let c0_i32_9 : BitVec 32 := 0#32
  let c1_i32_10 : BitVec 32 := 1#32
  let v24 : BitVec 32 := Scalar.muli c0_i32_9 c1_i32_10
  let v25 : BitVec 32 := Scalar.addi c0_i32_11 v24
  v25.toNat
def k0_dev2 : Nat :=
  let c0_i32_15 : BitVec 32 := 0#32
  let c1_i32_13 : BitVec 32 := 1#32
  let c1_i32_14 : BitVec 32 := 1#32
  let v26 : BitVec 32 := Scalar.muli c1_i32_13 c1_i32_14
  let v27 : BitVec 32 := Scalar.addi c0_i32_15 v26
  v27.toNat
def k0_dev3 : Nat :=
  let c0_i32_18 : BitVec 32 := 0#32
  let c2_i32 : BitVec 32 := 2#32
  let c1_i32_17 : BitVec 32 := 1#32
  let v28 : BitVec 32 := Scalar.muli c2_i32 c1_i32_17
  let v29 : BitVec 32 := Scalar.addi c0_i32_18 v28
  v29.toNat
def k0_dev4 : Nat :=
  let c0_i32_21 : BitVec 32 := 0#32
  let c3_i32 : BitVec 32 := 3#32
  let c1_i32_20 : BitVec 32 := 1#32
  let v30 : BitVec 32 := Scalar.muli c3_i32 c1_i32_20
  let v31 : BitVec 32 := Scalar.addi c0_i32_21 v30
  v31.toNat
def k0_dev5 : Nat :=
  let c0_i32_25 : BitVec 32 := 0#32
  let c4_i32_23 : BitVec 32 := 4#32
  let c1_i32_24 : BitVec 32 := 1#32
  let v32 : BitVec 32 := Scalar.muli c4_i32_23 c1_i32_24
  let v33 : BitVec 32 := Scalar.addi c0_i32_25 v32
  v33.toNat
def k0_dev6 : Nat :=
  let c0_i32_28 : BitVec 32 := 0#32
  let c5_i32 : BitVec 32 := 5#32
  let c1_i32_27 : BitVec 32 := 1#32
  let v34 : BitVec 32 := Scalar.muli c5_i32 c1_i32_27
  let v35 : BitVec 32 := Scalar.addi c0_i32_28 v34
  v35.toNat
def k0_dev7 : Nat :=
  let c0_i32_31 : BitVec 32 := 0#32
  let c6_i32 : BitVec 32 := 6#32
  let c1_i32_30 : BitVec 32 := 1#32
  let v36 : BitVec 32 := Scalar.muli c6_i32 c1_i32_30
  let v37 : BitVec 32 := Scalar.addi c0_i32_31 v36
  v37.toNat
def k0_dev8 : Nat :=
  let c0_i32_34 : BitVec 32 := 0#32
  let c7_i32 : BitVec 32 := 7#32
  let c1_i32_33 : BitVec 32 := 1#32
  let v38 : BitVec 32 := Scalar.muli c7_i32 c1_i32_33
  let v39 : BitVec 32 := Scalar.addi c0_i32_34 v38
  v39.toNat
def k0_dev9 : Nat :=
  let c0_i32_37 : BitVec 32 := 0#32
  let c8_i32 : BitVec 32 := 8#32
  let c1_i32_36 : BitVec 32 := 1#32
  let v40 : BitVec 32 := Scalar.muli c8_i32 c1_i32_36
  let v41 : BitVec 32 := Scalar.addi c0_i32_37 v40
  v41.toNat
def k0_dev10 : Nat :=
  let c0_i32_40 : BitVec 32 := 0#32
  let c9_i32 : BitVec 32 := 9#32
  let c1_i32_39 : BitVec 32 := 1#32
  let v42 : BitVec 32 := Scalar.muli c9_i32 c1_i32_39
  let v43 : BitVec 32 := Scalar.addi c0_i32_40 v42
  v43.toNat
def k0_dev11 : Nat :=
  let c0_i32_43 : BitVec 32 := 0#32
  let c10_i32 : BitVec 32 := 10#32
  let c1_i32_42 : BitVec 32 := 1#32
  let v44 : BitVec 32 := Scalar.muli c10_i32 c1_i32_42
  let v45 : BitVec 32 := Scalar.addi c0_i32_43 v44
  v45.toNat
def k0_dev12 : Nat :=
  let c0_i32_46 : BitVec 32 := 0#32
  let c11_i32 : BitVec 32 := 11#32
  let c1_i32_45 : BitVec 32 := 1#32
  let v46 : BitVec 32 := Scalar.muli c11_i32 c1_i32_45
  let v47 : BitVec 32 := Scalar.addi c0_i32_46 v46
  v47.toNat
def k0_dev13 : Nat :=
  let c0_i32_49 : BitVec 32 := 0#32
  let c12_i32 : BitVec 32 := 12#32
  let c1_i32_48 : BitVec 32 := 1#32
  let v48 : BitVec 32 := Scalar.muli c12_i32 c1_i32_48
  let v49 : BitVec 32 := Scalar.addi c0_i32_49 v48
  v49.toNat
def k0_dev14 : Nat :=
  let c0_i32_52 : BitVec 32 := 0#32
  let c13_i32 : BitVec 32 := 13#32
  let c1_i32_51 : BitVec 32 := 1#32
  let v50 : BitVec 32 := Scalar.muli c13_i32 c1_i32_51
  let v51 : BitVec 32 := Scalar.addi c0_i32_52 v50
  v51.toNat
def k0_dev15 : Nat :=
  let c0_i32_56 : BitVec 32 := 0#32
  let c14_i32_54 : BitVec 32 := 14#32
  let c1_i32_55 : BitVec 32 := 1#32
  let v52 : BitVec 32 := Scalar.muli c14_i32_54 c1_i32_55
  let v53 : BitVec 32 := Scalar.addi c0_i32_56 v52
  v53.toNat
def k0_dev16 : Nat :=
  let c0_i32_60 : BitVec 32 := 0#32
  let c15_i32_58 : BitVec 32 := 15#32
  let c1_i32_59 : BitVec 32 := 1#32
  let v54 : BitVec 32 := Scalar.muli c15_i32_58 c1_i32_59
  let v55 : BitVec 32 := Scalar.addi c0_i32_60 v54
  v55.toNat
def k0_cond2 (i : grid0.Coords) : BitVec 1 :=
  let arg0 : BitVec 32 := BitVec.ofNat 32 (i 0).val
  let c4_i32 : BitVec 32 := 4#32
  let v5 : BitVec 1 := Scalar.cmpi .sge arg0 c4_i32
  let c14_i32 : BitVec 32 := 14#32
  let v6 : BitVec 1 := Scalar.cmpi .sle arg0 c14_i32
  let v7 : BitVec 1 := Scalar.andi v5 v6
  let v8 : BitVec 32 := Scalar.extui v7
  let c0_i32_1 : BitVec 32 := 0#32
  let v9 : BitVec 1 := Scalar.cmpi .ne v8 c0_i32_1
  v9

def k0_off2 (i : grid0.Coords) : Fin 1 → Nat :=
  let arg0 : BitVec 32 := BitVec.ofNat 32 (i 0).val
  let c4_i32_9 : BitVec 32 := 4#32
  let v23 : BitVec 32 := Scalar.remsi arg0 c4_i32_9
  ![v23.toNat]
def k0_off3 (i : grid0.Coords) : Fin 3 → Nat :=
  let arg0 : BitVec 32 := BitVec.ofNat 32 (i 0).val
  let c4_i32_9 : BitVec 32 := 4#32
  let v23 : BitVec 32 := Scalar.remsi arg0 c4_i32_9
  let c0_i32_13 : BitVec 32 := 0#32
  let c0_i32_14 : BitVec 32 := 0#32
  ![v23.toNat, 0, 0]
def k0_cond3 (i : grid0.Coords) : BitVec 1 :=
  let arg0 : BitVec 32 := BitVec.ofNat 32 (i 0).val
  let c14_i32_6 : BitVec 32 := 14#32
  let v17 : BitVec 1 := Scalar.cmpi .sle arg0 c14_i32_6
  let v18 : BitVec 32 := Scalar.extui v17
  let c0_i32_7 : BitVec 32 := 0#32
  let v19 : BitVec 1 := Scalar.cmpi .ne v18 c0_i32_7
  v19

def k0_off4 (i : grid0.Coords) : Fin 1 → Nat :=
  let arg0 : BitVec 32 := BitVec.ofNat 32 (i 0).val
  let c1_i32 : BitVec 32 := 1#32
  let v23 : BitVec 32 := Scalar.addi arg0 c1_i32
  let v24 : Index := Scalar.indexCast v23
  ![v24.toNat]
def k0_off5 (i : grid0.Coords) : Fin 3 → Nat :=
  let arg0 : BitVec 32 := BitVec.ofNat 32 (i 0).val
  let c4_i32_9 : BitVec 32 := 4#32
  let v28 : BitVec 32 := Scalar.remsi arg0 c4_i32_9
  let v29 : Index := Scalar.indexCast v28
  let c0_10 : Index := 0#32
  let c0_11 : Index := 0#32
  ![v29.toNat, 0, 0]
def k0_off6 (i : grid0.Coords) : Fin 1 → Nat :=
  let arg0 : BitVec 32 := BitVec.ofNat 32 (i 0).val
  let c4_i32_9 : BitVec 32 := 4#32
  let v28 : BitVec 32 := Scalar.remsi arg0 c4_i32_9
  ![v28.toNat]
def k0_off7 (i : grid0.Coords) : Fin 1 → Nat :=
  let arg0 : BitVec 32 := BitVec.ofNat 32 (i 0).val
  ![arg0.toNat]
def k0_off8 (v0 : BitVec 32) : Fin 2 → Nat :=
  let c256_i32 : BitVec 32 := 256#32
  let v1 : BitVec 32 := Scalar.muli v0 c256_i32
  let c0_i32_14 : BitVec 32 := 0#32
  ![v1.toNat, 0]

def k0_off9 (i : grid0.Coords) : Fin 3 → Nat :=
  let arg0 : BitVec 32 := BitVec.ofNat 32 (i 0).val
  let c4_i32_9 : BitVec 32 := 4#32
  let v28 : BitVec 32 := Scalar.remsi arg0 c4_i32_9
  let c0_i32_15 : BitVec 32 := 0#32
  let c0_i32_16 : BitVec 32 := 0#32
  ![v28.toNat, 0, 0]
def k0_dev17 (v0 : BitVec 32) (v25 : BitVec 32) : Nat :=
  let c0_i32_13 : BitVec 32 := 0#32
  let v26 : BitVec 32 := Scalar.addi v0 v25
  let c16_i32 : BitVec 32 := 16#32
  let v27 : BitVec 32 := Scalar.remsi v26 c16_i32
  let c1_i32_12 : BitVec 32 := 1#32
  let v33 : BitVec 32 := Scalar.muli v27 c1_i32_12
  let v34 : BitVec 32 := Scalar.addi c0_i32_13 v33
  v34.toNat

def k0_chk2 (i : grid0.Coords) (v0 : BitVec 32) (v25 : BitVec 32) : Prop :=
  (∀ (k0_h3 : k0_cond3 i = 1#1), (k0_dev17 v0 v25) < nD)
theorem k0_dev17_lt : ∀ (i : grid0.Coords) (v0 : BitVec 32) (v25 : BitVec 32) (k0_hw2 : k0_chk2 i v0 v25), ∀ (k0_h3 : k0_cond3 i = 1#1), (k0_dev17 v0 v25) < nD := fun i v0 v25 k0_hw2 k0_h3 => k0_hw2 k0_h3

def k0_cond4 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_8 : BitVec 32 := 0#32
  let v22 : BitVec 1 := Scalar.cmpi .ne v21 c0_i32_8
  v22

def k0_off10 (v0 : BitVec 32) : Fin 2 → Nat :=
  let c256_i32 : BitVec 32 := 256#32
  let v1 : BitVec 32 := Scalar.muli v0 c256_i32
  let v23 : Index := Scalar.indexCast v1
  let c0_9 : Index := 0#32
  ![v23.toNat, 0]
def k0_off11 (v0 : BitVec 32) (c8_i32 : BitVec 32) : Fin 2 → Nat :=
  let v25 : BitVec 32 := Scalar.subi v0 c8_i32
  let c32_i32 : BitVec 32 := 32#32
  let v26 : BitVec 32 := Scalar.addi v25 c32_i32
  let c16_i32 : BitVec 32 := 16#32
  let v27 : BitVec 32 := Scalar.remsi v26 c16_i32
  let c256_i32_10 : BitVec 32 := 256#32
  let v28 : BitVec 32 := Scalar.muli v27 c256_i32_10
  let c0_i32_15 : BitVec 32 := 0#32
  ![v28.toNat, 0]

def k0_chk1 (i : grid0.Coords) (v0 : BitVec 32) : Prop :=
  (∀ (k0_h3 : k0_cond3 i = 1#1), ∀ a, (k0_off8 v0) a + S256x512.size a ≤ S4096x512.size a) ∧
  (∀ (k0_h4 : k0_cond4 i = 1#1), ∀ a, (k0_off10 v0) a + S256x512.size a ≤ S4096x512.size a) ∧
  (∀ (k0_h4 : k0_cond4 i = 1#1), ∀ (r : Fin 15), ∀ a, (k0_off11 v0 (BitVec.ofNat 32 (1 + r.val))) a + S256x512.size a ≤ S4096x512.size a)
theorem k0_off8_inb : ∀ (i : grid0.Coords) (v0 : BitVec 32) (k0_hw1 : k0_chk1 i v0), ∀ (k0_h3 : k0_cond3 i = 1#1), ∀ a, (k0_off8 v0) a + S256x512.size a ≤ S4096x512.size a := fun i v0 k0_hw1 k0_h3 => k0_hw1.1 k0_h3
theorem k0_off10_inb : ∀ (i : grid0.Coords) (v0 : BitVec 32) (k0_hw1 : k0_chk1 i v0), ∀ (k0_h4 : k0_cond4 i = 1#1), ∀ a, (k0_off10 v0) a + S256x512.size a ≤ S4096x512.size a := fun i v0 k0_hw1 k0_h4 => k0_hw1.2.1 k0_h4
theorem k0_off11_inb : ∀ (i : grid0.Coords) (v0 : BitVec 32) (k0_hw1 : k0_chk1 i v0), ∀ (k0_h4 : k0_cond4 i = 1#1), ∀ (r : Fin 15), ∀ a, (k0_off11 v0 (BitVec.ofNat 32 (1 + r.val))) a + S256x512.size a ≤ S4096x512.size a := fun i v0 k0_hw1 k0_h4 r => k0_hw1.2.2 k0_h4 r

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S17_S1_0 : ∀ a, (![0] : Fin 1 → Nat) a + S1.size a ≤ S17.size a) (numel1_S1 : S1.numel = 1) (k0_off1_inb : ∀ i : grid0.Coords, ∀ a, (k0_off1 i) a + S1.size a ≤ S17.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S17) ![0] S1.size inb_S17_S1_0) numel1_S1
  let c1_i32 : BitVec 32 := 1#32
  let v1 : BitVec 32 := Scalar.addi arg0 c1_i32
  let v2 : Index := Scalar.indexCast v1
  let v3 : BitVec 32 := pf.at 0 (Rect.unit (s := S17) ![v2.toNat] S1.size (k0_off1_inb i)) numel1_S1
  let v4 : BitVec 32 := Scalar.addi v0 v3
  let c16_i32 : BitVec 32 := 16#32
  let v5 : BitVec 32 := Scalar.remsi v4 c16_i32
  let c0_i32 : BitVec 32 := 0#32
  let c0_i32_0 : BitVec 32 := 0#32
  ![c0_i32.toNat, v5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Proto.lean ====
/- The protocol of the kernel: places, cells, contents handed over, the schedule of every cell, the levels and
   what each device owes at launch. -/
module

public import proofs.«01_k».proof.Proof.Gen.KernelIdeal.Launch
public import proofs.«01_k».proof.Proof.Gen.KernelIdeal.Skeleton
public import proofs.«01_k».proof.Proof.Gen.KernelIdeal.Regions
public import Idealize.ShloMosaic.Lib.Rounds
public import Idealize.ShloMosaic.Lib.Transfers
public import Idealize.ShloMosaic.Lib.Tactic
public import Mathlib.Algebra.BigOperators.Intervals

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The algebra: the staging pipeline's copy, the protocol's rounds, the counters of the local transfers -/

abbrev U₂ : Type := URounds (GSem nD τ sig) (Fin 16) × Counters
abbrev UU : Type := UR sig nD τ × U₂

local notation "𝕄" => MT nD τ sig Unit (Elt F) ℕ UU ℕ

abbrev EP : Emb (UR sig nD τ) (MT nD τ sig Unit (Elt F) ℕ UU ℕ) := embL
def ER : Emb (URounds (GSem nD τ sig) (Fin 16)) (MT nD τ sig Unit (Elt F) ℕ UU ℕ) :=
  (Emb.inl : Emb (URounds (GSem nD τ sig) (Fin 16)) U₂).trans embR
instance ER_landsIn : (ER : Emb (URounds (GSem nD τ sig) (Fin 16)) 𝕄).LandsIn (upEmb : UEmb _ 𝕄) := by
  unfold ER embR; infer_instance
abbrev EC : UEmb Counters (MT nD τ sig Unit (Elt F) ℕ UU ℕ) := countersEmb (U := UU)

/-! ## Places -/

/-- The order in which a device visits the others, as offsets. -/
def perm : ℕ → ℕ := fun t => ([8, 7, 9, 6, 10, 5, 11, 4, 12, 3, 13, 2, 14, 1, 15, 0] : List ℕ).getD t 0
/-- The device `c` sends to at step `t`. -/
def dst (c : Dev nD) (t : ℕ) : Dev nD := ⟨(c.val + perm t) % 16, Nat.mod_lt _ (by decide)⟩
/-- The device that sends to `c` at step `t`. -/
def src (c : Dev nD) (t : ℕ) : Dev nD := ⟨(c.val + 16 - perm t) % 16, Nat.mod_lt _ (by decide)⟩
/-- The step at which `c` sends to `p`. -/
def turn (c p : Dev nD) : ℕ := ([15, 13, 11, 9, 7, 5, 3, 1, 0, 2, 4, 6, 8, 10, 12, 14] : List ℕ).getD ((p.val + 16 - c.val) % 16) 0

theorem dst_turn (c p : Dev nD) : dst c (turn c p) = p := by revert c p; decide
theorem turn_lt (c p : Dev nD) : turn c p < 16 := by revert c p; decide
theorem turn_dst (c : Dev nD) (t : Fin 16) : turn c (dst c t.val) = t.val := by revert c t; decide
theorem src_dst (c : Dev nD) (t : Fin 16) : src (dst c t.val) t.val = c := by revert c t; decide
theorem dst_src (c : Dev nD) (t : Fin 16) : dst (src c t.val) t.val = c := by revert c t; decide
theorem dst_last (c : Dev nD) : dst c 15 = c := by revert c; decide
theorem src_last (c : Dev nD) : src c 15 = c := by revert c; decide

/-! ## Cells -/

abbrev dsem (k : ℕ) : DmaSem sig := ⟨k % 24, Nat.mod_lt _ (by decide)⟩
abbrev barCell (c : Dev nD) : GSem nD τ sig := ((c : Thread nD τ), .reg barrier0)
/-- The semaphore of communication slot `u % 4`, on which send `u` reads out. -/
abbrev sendCell (c : Dev nD) (u : ℕ) : GSem nD τ sig := ((c : Thread nD τ), .dma (dsem (4 + u % 4)))
/-- The semaphore on which the block of step `t` lands. -/
abbrev recvCell (c : Dev nD) (t : ℕ) : GSem nD τ sig := ((c : Thread nD τ), .dma (dsem (8 + t % 16)))

/-! ## Pieces of the buffers -/

theorem rows_inb (j : Dev nD) : ∀ a, (![256 * j.val, 0] : Fin 2 → Nat) a + S256x512.size a ≤ S4096x512.size a := by
  revert j; decide
theorem slot_inb (k : Fin 4) : ∀ a, (![k.val, 0, 0] : Fin 3 → Nat) a + S1x256x512.size a ≤ S4x256x512.size a := by
  revert k; decide

/-- The rows of the result that device `j` computes, in the staging buffer of the result. -/
abbrev rowsM (j : Dev nD) : Memref sig .tc .vmem S256x512 .f32 :=
  (Memref.whole cc0_stg2_0 : Memref sig .tc .vmem S4096x512 .f32).slice (Rect.unit (s := S4096x512) ![256 * j.val, 0] S256x512.size (rows_inb j)) (fun _ => rfl)
/-- The slot of send `u`. -/
def s4 (u : ℕ) : Fin 4 := ⟨u % 4, Nat.mod_lt _ (by decide)⟩
/-- Communication slot `k`. -/
abbrev slotM (k : Fin 4) : Memref sig .tc .vmem S256x512 .f32 :=
  ((Memref.whole cc0_scratch0 : Memref sig .tc .vmem S4x256x512 .f32).slice (Rect.unit (s := S4x256x512) ![k.val, 0, 0] S1x256x512.size (slot_inb k)) (fun _ => rfl)).squeeze S256x512 squeezes_S1x256x512_S256x512

abbrev OutBuf (F : FTy → Type) (p : Dev nD) : Type := Buf (Elt F) ((p : Thread nD τ).loc cc0_stg2_0)
abbrev CommBuf (F : FTy → Type) (p : Dev nD) : Type := Buf (Elt F) ((p : Thread nD τ).loc cc0_scratch0)

abbrev rowsPts (p j : Dev nD) (f : OutBuf F p) : sProp 𝕄 := (rowsM j).view.loc (p : Thread nD τ) ↦[(rowsM j).view.set]{fullShare} f
abbrev slotPts (p : Dev nD) (k : Fin 4) (f : CommBuf F p) : sProp 𝕄 := (slotM k).view.loc (p : Thread nD τ) ↦[(slotM k).view.set]{fullShare} f

/-- What one block's transfer adds to a semaphore. -/
abbrev N : ℕ := (rowsM 0).view.dmaCredit
theorem N_pos : 0 < N := View.dmaCredit_pos _ (by decide)
theorem N_rows (j : Dev nD) : (rowsM j).view.dmaCredit = N := rfl
theorem N_slot (k : Fin 4) : (slotM k).view.dmaCredit = N := rfl

/-! ## Contents -/

variable (m : (ℓ : Loc nD τ sig) → Buf (Elt F) ℓ)

/-- Column block `p` of a device's copy of the second operand. -/
def wcol (w : S4096x8192.Idx → F .f32) (p : Dev nD) : Vec F S4096x512 .f32 :=
  fun i => w (fun | 0 => ⟨(i 0).val, (i 0).isLt⟩
                  | 1 => ⟨512 * p.val + (i 1).val, by have h1 : p.val < 16 := p.isLt; have h2 : (i 1).val < 512 := (i 1).isLt; show _ < 8192; omega⟩)
/-- The block device `j` computes for device `p`. -/
def blk (j p : Dev nD) : Vec F S256x512 .f32 :=
  k0_pay1 (m ((j : Thread nD τ).loc main_arg0)) (wcol (m ((j : Thread nD τ).loc main_arg1)) p)
/-- Device `p`'s whole result: the sixteen blocks one under the other. -/
def OUT (p : Dev nD) : OutBuf F p :=
  fun i : S4096x512.Idx => blk m ⟨(i 0).val / 256, by have h : (i 0).val < 4096 := (i 0).isLt; show _ < 16; omega⟩ p
    (fun | 0 => ⟨(i 0).val % 256, Nat.mod_lt _ (by decide)⟩ | 1 => ⟨(i 1).val, (i 1).isLt⟩)

/-! ## The schedule -/

/-- Device `p` tells `c` that it has entered: `c`'s rows in `p`'s staging buffer, and that `p`'s receive cell for them is open. -/
def barPay (c p : Dev nD) : sProp 𝕄 := iprop((∃ f, rowsPts p c f) ∗ reached ER (recvCell p (turn c p)) 0)
/-- A block has been read out of its slot: the slot back. -/
def sendPay (c : Dev nD) (k : Fin 4) : sProp 𝕄 := iprop(∃ f, slotPts c k f)
/-- The block of step `t` has landed at `c`. -/
def recvPay (c : Dev nD) (t : ℕ) : sProp 𝕄 := rowsPts c (src c t) (OUT m c)

/-- The barrier: sixteen duties, one per device. A slot's cell: one duty per round, round `r` of slot `k` being send `4 r + k`.
    A receive cell: one duty. -/
def rd : Rounds.Schedule (GSem nD τ sig) (Fin 16) 𝕄 where
  duties g r := if g.1.2 = .tc then (match g.2 with
      | .reg _ => if r = 0 then Finset.univ else ∅
      | .dma d => if 4 ≤ d.val ∧ d.val < 8 ∧ 4 * r + (d.val - 4) < 15 ∨ 8 ≤ d.val ∧ d.val < 23 ∧ r = 0 then {0} else ∅) else ∅
  unitless _ := False
  amount g _ _ := match g.2 with | .reg _ => 1 | .dma _ => N
  payload g _ p := match g.2 with
    | .reg _ => barPay g.1.1 p
    | .dma d => if d.val < 8 then sendPay g.1.1 (s4 d.val) else recvPay m g.1.1 (d.val - 8)
  amount_pos g _ _ _ := by
    rcases g with ⟨_, (_ | _)⟩
    · exact Nat.one_pos
    · exact N_pos

instance rd_payload_storable (g : GSem nD τ sig) (r : ℕ) (d : Fin 16) :
    BI.Storable (upEmb : UEmb _ 𝕄) ((rd (F := F) m).payload g r d) := by
  rcases g with ⟨⟨c, p⟩, (s | s)⟩
  · show BI.Storable upEmb (barPay c d)
    unfold barPay; infer_instance
  · show BI.Storable upEmb (if s.val < 8 then sendPay c (s4 s.val) else recvPay m c (s.val - 8))
    unfold sendPay recvPay; split <;> infer_instance

section Sched
variable (c : Dev nD)

theorem duties_bar : (rd (F := F) m).duties (barCell c) 0 = Finset.univ := rfl
theorem duties_bar_later : ∀ r, 1 ≤ r → (rd (F := F) m).duties (barCell c) r = ∅ := fun r hr => by
  show (if (c : Thread nD τ).2 = .tc then (if r = 0 then Finset.univ else ∅) else ∅) = (∅ : Finset (Fin 16))
  rw [if_pos rfl, if_neg (by omega)]
theorem duties_dma (d : DmaSem sig) (r : ℕ) : (rd (F := F) m).duties ((c : Thread nD τ), .dma d) r
    = if 4 ≤ d.val ∧ d.val < 8 ∧ 4 * r + (d.val - 4) < 15 ∨ 8 ≤ d.val ∧ d.val < 23 ∧ r = 0 then {0} else ∅ := rfl
theorem duties_send {u : ℕ} (h : u < 15) : (rd (F := F) m).duties (sendCell c u) (u / 4) = {0} := by
  rw [duties_dma, if_pos]; left; dsimp only; omega
theorem duties_send_later {u : ℕ} (h : 15 ≤ u) : ∀ r, u / 4 ≤ r → (rd (F := F) m).duties (sendCell c u) r = ∅ := fun r hr => by
  rw [duties_dma, if_neg]; dsimp only; omega
theorem duties_recv {t : ℕ} (h : t < 15) : (rd (F := F) m).duties (recvCell c t) 0 = {0} := by
  rw [duties_dma, if_pos]; right; dsimp only; omega
theorem duties_recv_later (t : ℕ) : ∀ r, 1 ≤ r → (rd (F := F) m).duties (recvCell c t) r = ∅ := fun r hr => by
  rw [duties_dma, if_neg]; dsimp only; omega
theorem duties_recv_last : ∀ r, 0 ≤ r → (rd (F := F) m).duties (recvCell c 15) r = ∅ := fun r _ => by
  rw [duties_dma, if_neg]; dsimp only; omega

theorem amount_bar (r : ℕ) (d : Fin 16) : (rd (F := F) m).amount (barCell c) r d = 1 := rfl
theorem amount_dma (s : DmaSem sig) (r : ℕ) (d : Fin 16) : (rd (F := F) m).amount ((c : Thread nD τ), .dma s) r d = N := rfl

theorem expect_bar : (rd (F := F) m).expect (barCell c) 0 = 16 := by
  unfold Schedule.expect Schedule.amountOf
  rw [duties_bar]; rfl
theorem expect_send {u : ℕ} (h : u < 15) : (rd (F := F) m).expect (sendCell c u) (u / 4) = N := by
  unfold Schedule.expect Schedule.amountOf; rw [duties_send m c h, Finset.sum_singleton, amount_dma]
theorem expect_recv {t : ℕ} (h : t < 15) : (rd (F := F) m).expect (recvCell c t) 0 = N := by
  unfold Schedule.expect Schedule.amountOf; rw [duties_recv m c h, Finset.sum_singleton, amount_dma]

theorem payload_bar (p : Fin 16) : (rd (F := F) m).payload (barCell c) 0 p = barPay c p := rfl
theorem payload_send (u r : ℕ) (d : Fin 16) : (rd (F := F) m).payload (sendCell c u) r d = sendPay c (s4 u) := by
  show (if (4 + u % 4) % 24 < 8 then sendPay c (s4 ((4 + u % 4) % 24)) else _) = _
  rw [if_pos (by omega)]
  exact congrArg (sendPay c) (Fin.ext (show (4 + u % 4) % 24 % 4 = u % 4 by omega))
theorem payload_recv {t : ℕ} (h : t < 16) (r : ℕ) (d : Fin 16) : (rd (F := F) m).payload (recvCell c t) r d = recvPay m c t := by
  show (if (8 + t % 16) % 24 < 8 then _ else recvPay m c ((8 + t % 16) % 24 - 8)) = _
  rw [if_neg (by omega), show (8 + t % 16) % 24 - 8 = t by omega]

theorem rest_bar : bigSep ((rd (F := F) m).duties (barCell c) 0 \ ∅) (fun p => (rd (F := F) m).payload (barCell c) 0 p)
    = bigSep Finset.univ fun p => barPay c p := by
  rw [Finset.sdiff_empty, duties_bar]; rfl
theorem rest_send {u : ℕ} (h : u < 15) : bigSep ((rd (F := F) m).duties (sendCell c u) (u / 4) \ ∅) (fun d => (rd (F := F) m).payload (sendCell c u) (u / 4) d)
    = sendPay c (s4 u) := by
  rw [Finset.sdiff_empty, duties_send m c h, bigSep_singleton, payload_send]
theorem rest_recv {t : ℕ} (h : t < 15) : bigSep ((rd (F := F) m).duties (recvCell c t) 0 \ ∅) (fun d => (rd (F := F) m).payload (recvCell c t) 0 d)
    = recvPay m c t := by
  rw [Finset.sdiff_empty, duties_recv m c h, bigSep_singleton, payload_recv m c (by omega)]

end Sched

/-! ## Levels, and what each device owes -/

/-- What device `c` owes the receive cells from step `s` on. -/
def owesRecv (c : Dev nD) (s : ℕ) : CellTallies nD τ sig Unit := ∑ t ∈ Finset.Ico s 15, tallyAt (recvCell (dst c t) t) () N
/-- What device `c` owes the barrier cells from device `p` on. -/
def owesBar (p : ℕ) : CellTallies nD τ sig Unit := ∑ q ∈ Finset.Ico p 16, tallyAt (barCell ⟨q % 16, Nat.mod_lt _ (by decide)⟩) () 1
def O₀ (c : Dev nD) : CellTallies nD τ sig Unit := owesRecv c 0 + owesBar 0

def L (g : GSem nD τ sig) : Finset Unit := if g.1.2 = .tc then {()} else ∅
/-- Barrier cells at 1, receive cells at 2, the others at 0. -/
def lv (g : GSem nD τ sig) (_ : Unit) : ℕ := match g.2 with | .reg _ => 1 | .dma d => if d.val < 8 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (t : ℕ) (u : Unit) : lv (recvCell c t) u = 2 := by
  show (if (8 + t % 16) % 24 < 8 then 0 else 2) = 2
  rw [if_neg (by omega)]
theorem lv_low (c : Dev nD) {d : DmaSem sig} (h : d.val < 8) (u : Unit) : lv ((c : Thread nD τ), .dma d) u = 0 := by
  show (if d.val < 8 then 0 else 2) = 0
  rw [if_pos h]

theorem owesRecv_pos {c : Dev nD} {s : ℕ} {g : GSem nD τ sig} {u : Unit} (h : 0 < owesRecv c s g u) :
    ∃ t, g = recvCell (dst c t) t := by
  unfold owesRecv at h
  rw [Finset.sum_apply, Finsupp.finset_sum_apply] at h
  by_contra hn
  push Not at hn
  refine absurd h (Nat.not_lt.2 (Nat.le_of_eq ?_))
  refine Finset.sum_eq_zero fun t _ => ?_
  rw [tallyAt_apply, if_neg (fun hh => hn t hh.1)]
theorem owesBar_pos {p : ℕ} {g : GSem nD τ sig} {u : Unit} (h : 0 < owesBar p g u) : ∃ q, g = barCell q := by
  unfold owesBar at h
  rw [Finset.sum_apply, Finsupp.finset_sum_apply] at h
  by_contra hn
  push Not at hn
  refine absurd h (Nat.not_lt.2 (Nat.le_of_eq ?_))
  refine Finset.sum_eq_zero fun t _ => ?_
  rw [tallyAt_apply, if_neg (fun hh => hn _ hh.1)]

theorem owesRecv_succ (c : Dev nD) {s : ℕ} (h : s < 15) : owesRecv c s = owesRecv c (s + 1) + tallyAt (recvCell (dst c s) s) () N := by
  unfold owesRecv; rw [Finset.sum_eq_sum_Ico_succ_bot h, add_comm]
theorem owesRecv_end (c : Dev nD) : owesRecv c 15 = 0 := by unfold owesRecv; rw [Finset.Ico_self, Finset.sum_empty]
theorem owesBar_succ {p : Dev nD} : owesBar p.val = owesBar (p.val + 1) + tallyAt (barCell p) () 1 := by
  have e : (⟨p.val % 16, Nat.mod_lt _ (by decide)⟩ : Dev nD) = p := Fin.ext (Nat.mod_eq_of_lt p.isLt)
  unfold owesBar
  rw [Finset.sum_eq_sum_Ico_succ_bot p.isLt, add_comm, e]
theorem owesBar_end : owesBar 16 = 0 := by unfold owesBar; rw [Finset.Ico_self, Finset.sum_empty]

/-- Waiting at the barrier while blocks are still owed. -/
theorem mayWait_bar (c : Dev nD) (s : ℕ) : (levAts L lv : sProp 𝕄) ⊢ MayWait (c : Thread nD τ) (.reg barrier0) () (owesRecv c s) :=
  MayOwe.of_cut (L := L) (lev := lv) 1 (fun p hp => by rw [Finset.mem_singleton.mp hp, L_tc]; exact Finset.mem_singleton_self _)
    (fun g u hg => by obtain ⟨t, rfl⟩ := owesRecv_pos hg; rw [L_tc]; exact Finset.mem_singleton_self _)
    (fun p hp => by rw [Finset.mem_singleton.mp hp]; exact Nat.le_refl 1)
    (fun g u hg => by obtain ⟨t, rfl⟩ := owesRecv_pos hg; rw [lv_recv]; decide)

/-- Waiting on a staging semaphore or a slot's while anything is owed. -/
theorem mayWait_low (c : Dev nD) {d : DmaSem sig} (hd : d.val < 8) (O : CellTallies nD τ sig Unit)
    (hO : ∀ g u, 0 < O g u → (∃ p t, g = recvCell p t) ∨ ∃ p, g = barCell p) :
    (levAts L lv : sProp 𝕄) ⊢ MayWait (c : Thread nD τ) (.dma d) () O :=
  MayOwe.of_cut (L := L) (lev := lv) 0 (fun p hp => by rw [Finset.mem_singleton.mp hp, L_tc]; exact Finset.mem_singleton_self _)
    (fun g u hg => by
      rcases hO g u hg with ⟨p, t, rfl⟩ | ⟨p, rfl⟩ <;> (rw [L_tc]; exact Finset.mem_singleton_self _))
    (fun p hp => by rw [Finset.mem_singleton.mp hp, lv_low c hd])
    (fun g u hg => by
      rcases hO g u hg with ⟨p, t, rfl⟩ | ⟨p, rfl⟩
      · rw [lv_recv]; decide
      · rw [lv_bar]; decide)

theorem mayWait_low_recv (c : Dev nD) {d : DmaSem sig} (hd : d.val < 8) (s : ℕ) :
    (levAts L lv : sProp 𝕄) ⊢ MayWait (c : Thread nD τ) (.dma d) () (owesRecv c s) :=
  mayWait_low c hd _ fun _ _ h => .inl (let ⟨t, ht⟩ := owesRecv_pos h; ⟨_, t, ht⟩)
theorem mayWait_low_all (c : Dev nD) {d : DmaSem sig} (hd : d.val < 8) :
    (levAts L lv : sProp 𝕄) ⊢ MayWait (c : Thread nD τ) (.dma d) () (O₀ c) :=
  mayWait_low c hd _ fun g u h => by
    have h' : 0 < owesRecv c 0 g u + owesBar 0 g u := h
    rcases Nat.eq_zero_or_pos (owesRecv c 0 g u) with h0 | h0
    · rw [h0, Nat.zero_add] at h'; exact .inr (owesBar_pos h')
    · exact .inl (let ⟨t, ht⟩ := owesRecv_pos h0; ⟨_, t, ht⟩)

end Cert.KernelIdeal.Pf
-- ==== Proof.KernelIdeal.Words.lean ====
/- The words the kernel computes, read as numbers: the branch taken at each grid point, the offsets, the semaphores and
   the device a block goes to. -/
module

public import proofs.«01_k».proof.Proof.KernelIdeal.Proto

@[expose] public section

noncomputable section

namespace Cert.KernelIdeal.Pf

open Idealize.ShloMosaic Idealize.ShloMosaic.TcCoe
open Cert.KernelIdeal.Gen

/-- A number as a word. -/
abbrev wd (n : ℕ) : BitVec 32 := BitVec.ofNat 32 n

theorem coords_val (t : Fin grid0.N) : ((grid0.coords t) 0).val = t.val := by revert t; decide
theorem point_lt (t : Fin grid0.N) : t.val < 16 := t.isLt
theorem cond1_iff (t : Fin grid0.N) : k0_cond1 (grid0.coords t) = 1#1 ↔ t.val = 0 := by revert t; decide
theorem cond2_iff (t : Fin grid0.N) : k0_cond2 (grid0.coords t) = 1#1 ↔ 4 ≤ t.val ∧ t.val < 15 := by revert t; decide
theorem cond3_iff (t : Fin grid0.N) : k0_cond3 (grid0.coords t) = 1#1 ↔ t.val < 15 := by revert t; decide
theorem cond4_iff (t : Fin grid0.N) : k0_cond4 (grid0.coords t) = 1#1 ↔ t.val = 15 := by revert t; decide
theorem off2_eq (t : Fin grid0.N) : k0_off2 (grid0.coords t) = ![(s4 t.val).val] := by revert t; decide
theorem off3_eq (t : Fin grid0.N) : k0_off3 (grid0.coords t) = ![(s4 t.val).val, 0, 0] := by revert t; decide
theorem off4_eq (t : Fin grid0.N) : k0_off4 (grid0.coords t) = ![t.val + 1] := by revert t; decide
theorem off5_eq (t : Fin grid0.N) : k0_off5 (grid0.coords t) = ![(s4 t.val).val, 0, 0] := by revert t; decide
theorem off6_eq (t : Fin grid0.N) : k0_off6 (grid0.coords t) = ![(s4 t.val).val] := by revert t; decide
theorem off7_eq (t : Fin grid0.N) : k0_off7 (grid0.coords t) = ![t.val] := by revert t; decide
theorem off9_eq (t : Fin grid0.N) : k0_off9 (grid0.coords t) = ![(s4 t.val).val, 0, 0] := by revert t; decide

theorem off8_eq (c : Dev nD) : k0_off8 (wd c.val) = ![256 * c.val, 0] := by revert c; decide
theorem off10_eq (c : Dev nD) : k0_off10 (wd c.val) = ![256 * c.val, 0] := by revert c; decide
theorem dev17_eq (c : Dev nD) (s : Fin 16) : k0_dev17 (wd c.val) (wd (perm s.val)) = (dst c s.val).val := by revert c s; decide

theorem off8_in (c : Dev nD) : ∀ a, (k0_off8 (wd c.val)) a + S256x512.size a ≤ S4096x512.size a := by revert c; decide
theorem off10_in (c : Dev nD) : ∀ a, (k0_off10 (wd c.val)) a + S256x512.size a ≤ S4096x512.size a := by revert c; decide
theorem off11_in (c : Dev nD) : ∀ r : Fin 15, ∀ a, (k0_off11 (wd c.val) (BitVec.ofNat 32 (1 + r.val))) a + S256x512.size a ≤ S4096x512.size a := by
  revert c; decide
theorem chk1_holds (i : grid0.Coords) (c : Dev nD) : k0_chk1 i (wd c.val) := ⟨fun _ => off8_in c, fun _ => off10_in c, fun _ => off11_in c⟩
theorem chk2_holds (i : grid0.Coords) (c : Dev nD) (s : Fin 16) : k0_chk2 i (wd c.val) (wd (perm s.val)) := fun _ => by
  rw [dev17_eq]; exact (dst c s.val).isLt

/-- The semaphore of a slot, as the kernel names it. -/
theorem slot_sem {o : Fin 1 → ℕ} {k : Fin 4} (ho : o = ![k.val]) (h : ∀ a, o a + S1.size a ≤ S4.size a) :
    ((cc0_scratch1.slice (Rect.unit (s := S4) o S1.size h)).squeeze S_ squeezes_S1_S_).sem = dsem (4 + k.val) := by
  subst ho
  revert k; decide
/-- The semaphore of a receive step, as the kernel names it. -/
theorem recv_sem {o : Fin 1 → ℕ} {t : Fin 16} (ho : o = ![t.val]) (h : ∀ a, o a + S1.size a ≤ S16.size a) :
    ((cc0_scratch2.slice (Rect.unit (s := S16) o S1.size h)).squeeze S_ squeezes_S1_S_).sem = dsem (8 + t.val) := by
  subst ho
  revert t; decide

end Cert.KernelIdeal.Pf
-- ==== Proof.KernelIdeal.Table.lean ====
/- The prefetched table of device `c`: its own place, then the order in which it visits the others. -/
module

public import proofs.«01_k».proof.Proof.KernelIdeal.Words

@[expose] public section

noncomputable section

namespace Cert.KernelIdeal.Pf

open Idealize.ShloMosaic Idealize.ShloMosaic.TcCoe
open Cert.KernelIdeal.Gen

variable {F : FTy → Type} [FloatOps F]
variable (m : (ℓ : Loc nD τ sig) → Buf (Elt F) ℓ)

/-- Word `n` of device `c`'s table. -/
def tblWord (c : Dev nD) (n : ℕ) : BitVec 32 := if n = 0 then wd c.val else wd (perm (n - 1))
/-- Device `c`'s table. -/
def tbl (c : Dev nD) : Buf (Elt F) ((c : Thread nD τ).loc main_v6) := fun i : S17.Idx => tblWord c (i 0).val

/-- The table as the host operations build it. -/
def hostTbl (c : Dev nD) : S17.Idx → BitVec 32 :=
  concatenate S17 0 [⟨S1, broadcastInDim S1 ![] bcast_S_S1 (Host.remui (Host.divui (constantI S_ 32 (Dev.word c)) (constantI S_ 32 1#32)) (constantI S_ 32 16#32))⟩,
    ⟨S16, fun i => lit0 (S16.rowMajor i)⟩] concatenates_S1_S16_S17_d0

theorem V1_tbl_host (c : Dev nD) : (V1 m c main_v6 : S17.Idx → BitVec 32) = hostTbl c := rfl

/-- The table's index `n`. -/
def tix (n : Fin 17) : S17.Idx := fun b => ⟨n.val, by have : b = 0 := Subsingleton.elim _ _; subst this; exact n.isLt⟩

theorem tix_surj (i : S17.Idx) : ∃ n : Fin 17, i = tix n := by
  refine ⟨⟨(i 0).val, (i 0).isLt⟩, funext fun b => ?_⟩
  have : b = 0 := Subsingleton.elim _ _
  subst this; rfl

theorem hostTbl_eq (c : Dev nD) : ∀ n : Fin 17, hostTbl c (tix n) = tblWord c n.val := by
  revert c; decide +kernel

theorem V1_tbl (c : Dev nD) : V1 m c main_v6 = tbl (F := F) c := by
  rw [show V1 m c main_v6 = (hostTbl c : S17.Idx → BitVec 32) from rfl]
  funext i
  obtain ⟨n, rfl⟩ := tix_surj i
  exact hostTbl_eq c n

/-- The prefetched contents, as the launch reads them. -/
def pfv (c : Dev nD) : pre0.Contents (Elt F) := fun | 0 => (tbl (F := F) c : S17.Idx → BitVec 32) | ⟨_ + 1, h⟩ => absurd h (Nat.not_lt.2 (Nat.le_add_left _ _))

theorem tr1_word (c : Dev nD) (t : Fin 16) :
    Scalar.remsi (Scalar.addi (tblWord c 0) (tblWord c (t.val + 1))) 16#32 = wd (dst c t.val).val := by
  revert c t; decide

theorem tr1_eq (c : Dev nD) (t : Fin grid0.N) :
    cc0_transform_1 (F := F) inb_S17_S1_0 numel1_S1 k0_off1_inb (pfv c) (grid0.coords t) = ![0, (dst c t.val).val] := by
  have h0 : (pfv (F := F) c).at 0 (Rect.unit (s := S17) ![0] S1.size inb_S17_S1_0) numel1_S1 = tblWord c 0 := rfl
  have h1 : (pfv (F := F) c).at 0 (Rect.unit (s := S17) (k0_off1 (grid0.coords t)) S1.size (k0_off1_inb (grid0.coords t))) numel1_S1 = tblWord c (t.val + 1) := by
    show tblWord c _ = _
    congr 1
    revert t; decide
  funext a
  fin_cases a
  · rfl
  · show (Scalar.remsi (Scalar.addi ((pfv (F := F) c).at 0 (Rect.unit (s := S17) ![0] S1.size inb_S17_S1_0) numel1_S1) ((pfv (F := F) c).at 0 (Rect.unit (s := S17) (k0_off1 (grid0.coords t)) S1.size (k0_off1_inb (grid0.coords t))) numel1_S1)) 16#32).toNat = (dst c t.val).val
    rw [h0, h1, tr1_word c t]
    have h : (dst c t.val).val < 16 := (dst c t.val).isLt
    show (BitVec.ofNat 32 _).toNat = _
    rw [BitVec.toNat_ofNat, Nat.mod_eq_of_lt (by omega)]

theorem coords_surj (i : grid0.Coords) : ∃ t, i = grid0.coords t := by
  revert i; decide

theorem pfv_ok (c : Dev nD) : ok0 (F := F) (pfv c) := by
  intro i
  obtain ⟨t, rfl⟩ := coords_surj i
  refine ⟨?_, .inl rfl⟩
  rw [tr1_eq]
  generalize dst c t.val = p
  revert p; decide

/-- Device `c`'s admissible contents. -/
def adm (c : Dev nD) : (pcfg0 (F := F)).Adm := ⟨pfv c, pfv_ok c⟩

end Cert.KernelIdeal.Pf
-- ==== Proof.KernelIdeal.Pieces.lean ====
/- The pieces the two shared buffers are held in: the result's sixteen blocks of rows, the four communication slots;
   what a store into a slot leaves to send, and what a landed block holds. -/
module

public import proofs.«01_k».proof.Proof.KernelIdeal.Table
public import Idealize.ShloMosaic.Lib.Ring
public import Idealize.ShloMosaic.Lib.Pipeline.Value

@[expose] public section

noncomputable section

namespace Cert.KernelIdeal.Pf

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

variable (m : (ℓ : Loc nD τ sig) → Buf (Elt F) ℓ)

theorem mem_rows (j : Dev nD) (i : S4096x512.Idx) : i ∈ (rowsM j).view.set ↔ (i 0).val / 256 = j.val := by
  rw [show (rowsM j).view.set = (Rect.unit (s := S4096x512) ![256 * j.val, 0] S256x512.size (rows_inb j)).set from View.set_slice_whole _ _,
    Rect.mem_set_unit]
  have h0 : (i 0).val < 4096 := (i 0).isLt
  have h1 : (i 1).val < 512 := (i 1).isLt
  constructor
  · intro h
    have h := h 0
    have ha : 256 * j.val ≤ (i 0).val := h.1
    have hb : (i 0).val < 256 * j.val + 256 := h.2
    omega
  · intro h a
    fin_cases a
    · show 256 * j.val ≤ (i 0).val ∧ (i 0).val < 256 * j.val + 256
      omega
    · show 0 ≤ (i 1).val ∧ (i 1).val < 0 + 512
      omega

theorem mem_slot (k : Fin 4) (i : S4x256x512.Idx) : i ∈ (slotM k).view.set ↔ (i 0).val = k.val := by
  rw [show (slotM k).view.set = (Rect.unit (s := S4x256x512) ![k.val, 0, 0] S1x256x512.size (slot_inb k)).set from
    (View.set_reshape _ _).trans (View.set_slice_whole _ _), Rect.mem_set_unit]
  have h1 : (i 1).val < 256 := (i 1).isLt
  have h2 : (i 2).val < 512 := (i 2).isLt
  constructor
  · intro h
    have h := h 0
    have ha : k.val ≤ (i 0).val := h.1
    have hb : (i 0).val < k.val + 1 := h.2
    omega
  · intro h a
    fin_cases a
    · show k.val ≤ (i 0).val ∧ (i 0).val < k.val + 1
      omega
    · show 0 ≤ (i 1).val ∧ (i 1).val < 0 + 256
      omega
    · show 0 ≤ (i 2).val ∧ (i 2).val < 0 + 512
      omega

/-- Device `j`'s rows as elements of device `p`'s buffer. -/
def rowSet (p j : Dev nD) : Finset (Idx ((p : Thread nD τ).loc cc0_stg2_0)) := (rowsM j).view.set
/-- Slot `k` as elements of device `p`'s buffer. -/
def slotSet (p : Dev nD) (k : Fin 4) : Finset (Idx ((p : Thread nD τ).loc cc0_scratch0)) := (slotM k).view.set

theorem rows_disjoint (p : Dev nD) (a b : Dev nD) (h : a ≠ b) : Disjoint (rowSet p a) (rowSet p b) :=
  Finset.disjoint_left.2 fun i hi hj => h (Fin.ext (((mem_rows a i).1 hi).symm.trans ((mem_rows b i).1 hj)))
theorem row_of (i : S4096x512.Idx) : ∃ j : Dev nD, (i 0).val / 256 = j.val := by
  have h0 : (i 0).val < 4096 := (i 0).isLt
  have h : (i 0).val / 256 < 16 := by omega
  exact ⟨⟨(i 0).val / 256, h⟩, rfl⟩
theorem rows_cover (p : Dev nD) : (Finset.univ : Finset (Dev nD)).biUnion (rowSet p) = Finset.univ := by
  refine Finset.eq_univ_iff_forall.2 fun i => Finset.mem_biUnion.2 ?_
  obtain ⟨j, hj⟩ := row_of i
  exact ⟨j, Finset.mem_univ _, (mem_rows j i).2 hj⟩
theorem slot_disjoint (p : Dev nD) (a b : Fin 4) (h : a ≠ b) : Disjoint (slotSet p a) (slotSet p b) :=
  Finset.disjoint_left.2 fun i hi hj => h (Fin.ext (((mem_slot a i).1 hi).symm.trans ((mem_slot b i).1 hj)))
theorem slot_cover (p : Dev nD) : (Finset.univ : Finset (Fin 4)).biUnion (slotSet p) = Finset.univ := by
  refine Finset.eq_univ_iff_forall.2 fun i => Finset.mem_biUnion.2 ?_
  exact ⟨⟨((show S4x256x512.Idx from i) 0).val, ((show S4x256x512.Idx from i) 0).isLt⟩, Finset.mem_univ _, (mem_slot _ i).2 rfl⟩

/-- The result's staging buffer, whole, is its sixteen blocks of rows. -/
theorem out_split (p : Dev nD) (f : OutBuf F p) :
    ((p : Thread nD τ).loc cc0_stg2_0 ↦{fullShare} f : sProp 𝕄) = bigSep Finset.univ fun j => rowsPts p j f :=
  (Ring.pointsTo_blocks (rowSet p) (rows_disjoint p) (rows_cover p) f).trans rfl
/-- The communication buffer, whole, is its four slots. -/
theorem comm_split (p : Dev nD) (f : CommBuf F p) :
    ((p : Thread nD τ).loc cc0_scratch0 ↦{fullShare} f : sProp 𝕄) = bigSep Finset.univ fun k => slotPts p k f :=
  (Ring.pointsTo_blocks (slotSet p) (slot_disjoint p) (slot_cover p) f).trans rfl
/-- Four slots join to the buffer at some contents. -/
theorem comm_join (p : Dev nD) (f₀ : CommBuf F p) :
    bigSep Finset.univ (fun k => iprop(∃ f, slotPts p k f)) ⊢ (iprop(∃ g, (p : Thread nD τ).loc cc0_scratch0 ↦{fullShare} g) : sProp 𝕄) :=
  (Entails.of_eq rfl).trans (Ring.pointsTo_blocks_join_exists (slotSet p) (slot_disjoint p) (slot_cover p) f₀)

/-- The rows of device `j` written with its block hold what the whole result holds there. -/
theorem rows_write (p j : Dev nD) (f : OutBuf F p) (w : Vec F S256x512 .f32) (hw : w = blk m j p) :
    (rowsPts p j ((rowsM j).view.write (Elt F) f w Finset.univ) : sProp 𝕄) = rowsPts p j (OUT m p) := by
  subst hw
  refine pointsTo_congr fun i hi => ?_
  obtain ⟨x, -, rfl⟩ := Finset.mem_map.mp hi
  rw [View.write_emb_of_mem _ _ (Finset.mem_univ x)]
  have e0 : (((rowsM j).view.emb x : S4096x512.Idx) 0).val = 256 * j.val + (x 0).val := by
    show 256 * j.val + 1 * (x 0).val = _
    omega
  have e1 : (((rowsM j).view.emb x : S4096x512.Idx) 1).val = (x 1).val := by
    show 0 + 1 * (x 1).val = _
    omega
  have hx : (x 0).val < 256 := (x 0).isLt
  show blk m j p x = blk m _ p _
  have hj : (⟨(((rowsM j).view.emb x : S4096x512.Idx) 0).val / 256, by rw [e0]; have := j.isLt; show _ < 16; have h : j.val < 16 := j.isLt; omega⟩ : Dev nD) = j :=
    Fin.ext (by show (((rowsM j).view.emb x : S4096x512.Idx) 0).val / 256 = j.val; rw [e0]; omega)
  rw [hj]
  refine congrArg (blk m j p) (funext fun a => ?_)
  fin_cases a
  · exact Fin.ext (show (x 0).val = (((rowsM j).view.emb x : S4096x512.Idx) 0).val % 256 by rw [e0]; omega)
  · exact Fin.ext e1.symm

/-- What the slot holds after the block is stored in it. -/
theorem slot_read (k : Fin 4) {o : Fin 3 → ℕ} (ho : o = ![k.val, 0, 0]) (inb : ∀ a, o a + S1x256x512.size a ≤ S4x256x512.size a)
    (p : Dev nD) (g : CommBuf F p) (v10 : Vec F S256x4096 .f32) (v12 : Vec F S4096x512 .f32) :
    (slotM k).view.read (Elt F) (((Memref.whole cc0_scratch0 : Memref sig .tc .vmem S4x256x512 .f32).access (Rect.unit (s := S4x256x512) o S1x256x512.size inb)).write (Elt F) g (k0_pay2 v10 v12) Finset.univ)
      = k0_pay1 v10 v12 := by
  subst ho
  show shapeCast S256x512 (((Memref.whole cc0_scratch0 : Memref sig .tc .vmem S4x256x512 .f32).access (Rect.unit (s := S4x256x512) ![k.val, 0, 0] S1x256x512.size (slot_inb k))).read (Elt F) _) _ = _
  rw [View.read_write_univ]
  exact shapeCast_shapeCast _ _ _

/-- The rectangle of a slot, as the kernel's load and store name it. -/
theorem slot_access (k : Fin 4) {o : Fin 3 → ℕ} (ho : o = ![k.val, 0, 0]) (inb : ∀ a, o a + S1x256x512.size a ≤ S4x256x512.size a) :
    ((Memref.whole cc0_scratch0 : Memref sig .tc .vmem S4x256x512 .f32).access (Rect.unit (s := S4x256x512) o S1x256x512.size inb)).set
      = (slotM k).view.set := by
  subst ho
  exact (View.set_reshape _ _).symm

end Cert.KernelIdeal.Pf
-- ==== Proof.KernelIdeal.Steps.lean ====
/- One lemma per kind of communication step of the body: a signal at the barrier, the wait there, the recycling of a
   slot, the sending of a block, the receipt of one. Each says what the step takes out of the protocol's state and what
   it puts back. -/
module

public import proofs.«01_k».proof.Proof.KernelIdeal.Pieces

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The invariants of all cells -/

/-- The protocol's transfer cells: on every device the four of the slots and the sixteen of the receipts. -/
abbrev dmaCell (x : Dev nD × Fin 20) : GSem nD τ sig := ((x.1 : Thread nD τ), .dma ⟨4 + x.2.val, by have := x.2.isLt; show _ < 24; omega⟩)

/-- The invariants of all the protocol's cells, under one map of names. -/
def records (K : GSem nD τ sig → ℕ) : sProp 𝕄 :=
  iprop((bigSep Finset.univ fun p : Dev nD => cellInv ER (rd m) (K (barCell p)) (barCell p))
    ∗ bigSep Finset.univ fun x : Dev nD × Fin 20 => cellInv ER (rd m) (K (dmaCell x)) (dmaCell x))

instance records_persistent (K : GSem nD τ sig → ℕ) : BI.Persistent (records m K) := by unfold records; infer_instance

theorem inv_bar (K : GSem nD τ sig → ℕ) (p : Dev nD) : records m K ⊢ cellInv ER (rd m) (K (barCell p)) (barCell p) := by
  unfold records
  iintro ⟨H, -⟩
  iapply (show (bigSep Finset.univ fun p : Dev nD => (cellInv ER (rd m) (K (barCell p)) (barCell p) : sProp 𝕄)) ⊢ cellInv ER (rd m) (K (barCell p)) (barCell p)
    from bigSep_elim (Finset.mem_univ p)) $$ H
theorem inv_dma (K : GSem nD τ sig → ℕ) (x : Dev nD × Fin 20) : records m K ⊢ cellInv ER (rd m) (K (dmaCell x)) (dmaCell x) := by
  unfold records
  iintro ⟨-, H⟩
  iapply (show (bigSep Finset.univ fun x : Dev nD × Fin 20 => (cellInv ER (rd m) (K (dmaCell x)) (dmaCell x) : sProp 𝕄)) ⊢ cellInv ER (rd m) (K (dmaCell x)) (dmaCell x)
    from bigSep_elim (Finset.mem_univ x)) $$ H
theorem sendCell_eq (c : Dev nD) (u : ℕ) : dmaCell (c, ⟨u % 4, by omega⟩) = sendCell c u :=
  Prod.ext rfl (congrArg SemLoc.dma (Fin.ext (show 4 + u % 4 = (4 + u % 4) % 24 by omega)))
theorem recvCell_eq (c : Dev nD) (t : ℕ) : dmaCell (c, ⟨4 + t % 16, by omega⟩) = recvCell c t :=
  Prod.ext rfl (congrArg SemLoc.dma (Fin.ext (show 4 + (4 + t % 16) = (8 + t % 16) % 24 by omega)))
theorem inv_send (K : GSem nD τ sig → ℕ) (c : Dev nD) (u : ℕ) : records m K ⊢ cellInv ER (rd m) (K (sendCell c u)) (sendCell c u) := by
  have h := inv_dma m K (c, ⟨u % 4, by omega⟩)
  rwa [sendCell_eq] at h
theorem inv_recv (K : GSem nD τ sig → ℕ) (c : Dev nD) (t : ℕ) : records m K ⊢ cellInv ER (rd m) (K (recvCell c t)) (recvCell c t) := by
  have h := inv_dma m K (c, ⟨4 + t % 16, by omega⟩)
  rwa [recvCell_eq] at h

/-! ## The pieces of the state -/

/-- What `c` pays into device `p`'s barrier cell. -/
def BarTok (c p : Dev nD) : sProp 𝕄 :=
  iprop(dutyTok ER (barCell p) 0 c ∗ (∃ f, rowsPts c p f) ∗ reached ER (recvCell c (turn p c)) 0 ∗ reached ER (barCell p) 0)
/-- Slot `u % 4` free for send `u`. -/
def Slot (c : Dev nD) (u : ℕ) : sProp 𝕄 :=
  iprop((∃ f, slotPts c (s4 u) f) ∗ atPos ER (sendCell c u) (u / 4) ∅ 0 ∗ reached ER (sendCell c u) (u / 4))
/-- Send `u` under way. -/
def Pend (c : Dev nD) (u : ℕ) : sProp 𝕄 := iprop(cred (tallyAt (sendCell c u) () N) ∗ atPos ER (sendCell c u) (u / 4) ∅ 0)
/-- The right to make send `t`. -/
def Tok (c : Dev nD) (t : ℕ) : sProp 𝕄 := iprop(dutyTok ER (sendCell c t) (t / 4) 0 ∗ dutyTok ER (recvCell (dst c t) t) 0 0)
/-- The place where send `t` lands, at the receiver. -/
def Row (c : Dev nD) (t : ℕ) : sProp 𝕄 := iprop((∃ f, rowsPts (dst c t) c f) ∗ reached ER (recvCell (dst c t) t) 0)
/-- The right to wait for receipt `t`. -/
def Land (c : Dev nD) (t : ℕ) : sProp 𝕄 := iprop(cred (tallyAt (recvCell c t) () N) ∗ atPos ER (recvCell c t) 0 ∅ 0)
/-- Receipt `t` has happened. -/
def Got (c : Dev nD) (t : ℕ) : sProp 𝕄 := iprop(rowsPts c (src c t) (OUT m c) ∗ atPos ER (recvCell c t) 1 ∅ 0)

/-! ## The steps -/

theorem step_signal (K : GSem nD τ sig → ℕ) (c p : Dev nD) {b : Sem sig} (hb : b = barrier0) {d : Dev nD} (hd : d = p) (W : Waits sig Unit) (Q : PUnit → sProp 𝕄) :
    iprop(records m K ∗ owes (c : Thread nD τ) (owesRecv c 0 + owesBar p.val) W ∗ BarTok c p)
      ⊢ iprop((owes (c : Thread nD τ) (owesRecv c 0 + owesBar (p.val + 1)) W -∗ Q ⟨⟩)
        -∗ wp frame (wpE (defs₀ (F := F)) 𝒱₀ (c : Thread nD τ) none) Set.univ (semSignalWord d b 1#32) Q) := by
  subst hb; subst hd
  unfold BarTok
  iintro ⟨#HR, HO, HtP, Hf, #Hr, #Hrb⟩ Hk
  iapply (Rounds.wp_signal 𝒱₀ ER (rd m) (c : Thread nD τ) none (dst := (d : Thread nD τ)) (sem := barrier0) (r := 0) (d := c) (k' := 1) (k := .ret) (κ := K (barCell d))
      (by rw [duties_bar]; exact Finset.mem_univ _) (amount_bar m d 0 c) () (O₀ := owesRecv c 0 + owesBar d.val) (owesRecv c 0 + owesBar (d.val + 1))
      (by rw [owesBar_succ, add_assoc])) $$ [HO HtP Hf]
  · isplitr; · iapply (inv_bar m K d) $$ HR
    isplitl [HO]; · iexact HO
    isplitl [HtP]; · iexact HtP
    isplitl [Hf]
    · rw [payload_bar]; unfold barPay
      isplitl [Hf]; · iexact Hf
      iexact Hr
    · iexact Hrb
  iintro HO
  rw [wp_ret]; imodintro
  iapply Hk $$ HO

theorem step_barwait (K : GSem nD τ sig → ℕ) (c : Dev nD) {b : Sem sig} (hb : b = barrier0) (W : Waits sig Unit) (Q : PUnit → sProp 𝕄) :
    iprop(records m K ∗ levAts L lv ∗ owes (c : Thread nD τ) (owesRecv c 0) W ∗ cred (tallyAt (barCell c) () 16) ∗ atPos ER (barCell c) 0 ∅ 0)
      ⊢ iprop(((∃ W', owes (c : Thread nD τ) (owesRecv c 0) W') ∗ atPos ER (barCell c) 1 ∅ 0 ∗ bigSep Finset.univ (fun p => barPay c p) -∗ Q ⟨⟩)
        -∗ wp frame (wpE (defs₀ (F := F)) 𝒱₀ (c : Thread nD τ) none) Set.univ (semWaitWord b 16#32) Q) := by
  subst hb
  iintro ⟨#HR, #Hlev, HO, HcB, HatB⟩ Hk
  iapply (Rounds.wp_wait_rest_token 𝒱₀ ER (rd m) (c : Thread nD τ) none (κ := K (barCell c)) (k := .ret)
      (wpE_semWait_eq 𝒱₀ (c : Thread nD τ) none Set.univ) (Set.mem_univ _) () (O := owesRecv c 0) (W := W) (R := 0) (m := 0) (T := ∅)
      ((Nat.zero_add 16).trans (expect_bar m c).symm)) $$ [HcB HO HatB]
  · isplitr; · iapply (inv_bar m K c) $$ HR
    isplitl [HcB]; · iexact HcB
    isplitl [HO]; · iexact HO
    isplitr; · iapply (mayWait_bar c 0); iexact Hlev
    iexact HatB
  iintro ⟨HO, HatB, -, Hpay⟩
  ihave Hp := (Entails.of_eq (rest_bar m c)) $$ Hpay
  rw [wp_ret]; imodintro
  iapply Hk
  isplitl [HO]; · iexists _; iexact HO
  isplitl [HatB] <;> iassumption

theorem step_slotwait (K : GSem nD τ sig → ℕ) (c : Dev nD) (u s : ℕ) (hu : u < 15) {a : DmaSem sig} (ha : a = dsem (4 + u % 4))
    {e₁ e₂ : EltTy} {s₁ s₂ : Shape} {p₁ p₂ : Space} (x : Memref sig .tc p₁ s₁ e₁) (y : Memref sig .tc p₂ s₂ e₂) (hy : y.view.dmaCredit = N) (h₁ h₂) (Q : PUnit → sProp 𝕄) :
    iprop(records m K ∗ levAts L lv ∗ (∃ W, owes (c : Thread nD τ) (owesRecv c s) W) ∗ Pend c u)
      ⊢ iprop(((∃ W, owes (c : Thread nD τ) (owesRecv c s) W) ∗ Slot c (u + 4) -∗ Q ⟨⟩)
        -∗ wp frame (wpE (defs₀ (F := F)) 𝒱₀ (c : Thread nD τ) none) Set.univ (Prog.lift (.waitDma2 a x y h₁ h₂)) Q) := by
  subst ha
  unfold Pend Slot
  iintro ⟨#HR, #Hlev, ⟨%W, HO⟩, Hc, Hat⟩ Hk
  iapply (Rounds.wp_wait_rest_token 𝒱₀ ER (rd m) (c : Thread nD τ) none (κ := K (sendCell c u)) (k := .ret)
      (wpE_waitDma2_eq 𝒱₀ (c : Thread nD τ) none Set.univ) (Set.mem_univ _) () (O := owesRecv c s) (W := W) (R := u / 4) (m := 0) (T := ∅)
      ((Nat.zero_add _).trans (hy.trans (expect_send m c hu).symm))) $$ [Hc HO Hat]
  · isplitr; · iapply (inv_send m K c u) $$ HR
    isplitl [Hc]; · rw [hy]; iexact Hc
    isplitl [HO]; · iexact HO
    isplitr; · iapply (mayWait_low_recv c (d := dsem (4 + u % 4)) (by show (4 + u % 4) % 24 < 8; omega) s); iexact Hlev
    iexact Hat
  iintro ⟨HO, Hat, #Hr, Hpay⟩
  ihave Hp := (Entails.of_eq ((rest_send m c hu).trans (by unfold sendPay; rfl))) $$ Hpay
  rw [wp_ret]; imodintro
  iapply Hk
  isplitl [HO]; · iexists _; iexact HO
  have e1 : s4 (u + 4) = s4 u := Fin.ext (show (u + 4) % 4 = u % 4 by omega)
  have e2 : sendCell c (u + 4) = sendCell c u := by
    show ((c : Thread nD τ), SemLoc.dma (dsem (4 + (u + 4) % 4))) = _
    rw [show (u + 4) % 4 = u % 4 by omega]
  have e3 : (u + 4) / 4 = u / 4 + 1 := by omega
  rw [e1, e2, e3]
  isplitl [Hp]; · iexact Hp
  isplitl [Hat]; · iexact Hat
  iexact Hr

theorem step_recv (K : GSem nD τ sig → ℕ) (c : Dev nD) (t : ℕ) (ht : t < 15) {a : DmaSem sig} (ha : a = dsem (8 + t))
    {e₁ e₂ : EltTy} {s₁ s₂ : Shape} {p₁ p₂ : Space} (x : Memref sig .tc p₁ s₁ e₁) (y : Memref sig .tc p₂ s₂ e₂) (hy : y.view.dmaCredit = N) (h₁ h₂) (Q : PUnit → sProp 𝕄) :
    iprop(records m K ∗ (∃ W, owes (c : Thread nD τ) (owesRecv c 15) W) ∗ Land c t)
      ⊢ iprop(((∃ W, owes (c : Thread nD τ) (owesRecv c 15) W) ∗ Got m c t -∗ Q ⟨⟩)
        -∗ wp frame (wpE (defs₀ (F := F)) 𝒱₀ (c : Thread nD τ) none) Set.univ (Prog.lift (.waitDma2 a x y h₁ h₂)) Q) := by
  have ha' : a = dsem (8 + t % 16) := by rw [Nat.mod_eq_of_lt (by omega)]; exact ha
  subst ha'
  rw [owesRecv_end]
  unfold Land Got
  iintro ⟨#HR, ⟨%W, HO⟩, Hc, Hat⟩ Hk
  iapply (Rounds.wp_wait_rest_token 𝒱₀ ER (rd m) (c : Thread nD τ) none (κ := K (recvCell c t)) (k := .ret)
      (wpE_waitDma2_eq 𝒱₀ (c : Thread nD τ) none Set.univ) (Set.mem_univ _) () (O := 0) (W := W) (R := 0) (m := 0) (T := ∅)
      ((Nat.zero_add _).trans (hy.trans (expect_recv m c ht).symm))) $$ [Hc HO Hat]
  · isplitr; · iapply (inv_recv m K c t) $$ HR
    isplitl [Hc]; · rw [hy]; iexact Hc
    isplitl [HO]; · iexact HO
    isplitr; · rw [MayWait_zero]; iempintro
    iexact Hat
  iintro ⟨HO, Hat, -, Hpay⟩
  ihave Hp := (Entails.of_eq ((rest_recv m c ht).trans (by unfold recvPay; rfl))) $$ Hpay
  rw [wp_ret]; imodintro
  iapply Hk
  isplitl [HO]; · iexists _; iexact HO
  isplitl [Hp] <;> iassumption

end Cert.KernelIdeal.Pf
-- ==== Proof.KernelIdeal.Moves.lean ====
/- The body's loads and stores, and the sending of a block. -/
module

public import proofs.«01_k».proof.Proof.KernelIdeal.Steps
public import Idealize.SL.BI.BigOpNat

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev tblM : Memref sig .tc .smem S17 .i32 := Memref.whole main_v6
/-- The table, held by its device. -/
def TblPts (c : Dev nD) : sProp 𝕄 := iprop((c : Thread nD τ).loc main_v6 ↦{fullShare} tbl (F := F) c)

/-- A word of the table. -/
theorem step_table (c : Dev nD) (n : ℕ) {w : BitVec 32} (hw : tblWord c n = w) {o : Fin 1 → ℕ} (ho : o = ![n]) (inb : ∀ a, o a + S1.size a ≤ S17.size a) (Q : BitVec 32 → sProp 𝕄) :
    TblPts c ⊢ iprop((TblPts c -∗ Q w)
        -∗ wp frame (wpE (defs₀ (F := F)) 𝒱₀ (c : Thread nD τ) none) Set.univ (smemLoad tblM (Rect.unit (s := S17) o S1.size inb) numel1_S1 rfl) Q) := by
  subst ho; subst hw
  unfold TblPts
  iintro H Hk
  iapply (wp_smemLoadElt 𝒱₀ (c : Thread nD τ) none Set.univ (m := tblM) (r := Rect.unit (s := S17) ![n] S1.size inb) (S := Finset.univ) (f := tbl (F := F) c) (Finset.subset_univ _)) $$ [H]
  · iexact H
  iintro H
  rw [wp_ret]; imodintro
  ihave HQ := Hk $$ H
  rw [show (tblM.access (Rect.unit (s := S17) ![n] S1.size inb)).read (Elt F) (tbl (F := F) c) (Shape.Idx.first (numel1_S1.symm ▸ Nat.one_pos)) = tblWord c n from
    congrArg (tblWord c) (show n + 1 * ((Shape.Idx.first (s := S1) (numel1_S1.symm ▸ Nat.one_pos)) 0).val = n by
      have h : ((Shape.Idx.first (s := S1) (numel1_S1.symm ▸ Nat.one_pos)) 0).val < 1 := Fin.isLt _
      omega)]
  iexact HQ

/-- A side condition that holds. -/
theorem step_assume (c : Dev nD) {P : Prop} {d : Decidable P} (h : P) (Q : PLift P → sProp 𝕄) :
    Q ⟨h⟩ ⊢ wp frame (wpE (defs₀ (F := F)) 𝒱₀ (c : Thread nD τ) none) Set.univ (Prog.lift (.assume P d)) Q := by
  iintro H
  iapply (wp_assume 𝒱₀ (c : Thread nD τ) none Set.univ (k := .ret) h)
  rw [wp_ret]; imodintro
  iexact H

/-- A whole buffer's view, loaded through the whole rectangle. -/
theorem step_load {c : Dev nD} {s : Shape} {e : EltTy} (M : Memref sig .tc .vmem s e) {o : Fin s.rank → ℕ} (ho : o = fun _ => 0)
    (inb : ∀ a, o a + s.size a ≤ s.size a) {hl : M.view.LoadsAt (Rect.unit (s := s) o s.size inb).toLoadRect}
    (X : s.Idx → Elt F e) (Q : (s.Idx → Elt F e) → sProp 𝕄) :
    owns (c : Thread nD τ) M fullShare X ⊢ iprop((owns (c : Thread nD τ) M fullShare X -∗ Q X)
        -∗ wp frame (wpE (defs₀ (F := F)) 𝒱₀ (c : Thread nD τ) none) Set.univ (Prog.lift (.load M (Rect.unit (s := s) o s.size inb).toLoadRect hl)) Q) := by
  subst ho
  unfold owns
  iintro ⟨%f, %hf, H⟩ Hk
  iapply (wp_load 𝒱₀ (c : Thread nD τ) none Set.univ (m := M) (k := .ret) (S := M.view.set) (f := f) (View.setOn_subset_set _ _)) $$ [H]
  · iexact H
  iintro H
  rw [wp_ret]; imodintro
  rw [show M.view.readAt (Elt F) (Rect.unit (s := s) (fun _ => 0) s.size inb).toLoadRect f = X from
    (funext fun x => congrArg (M.view.read (Elt F) f) (funext fun a => Fin.ext (show 0 + 1 * (x a).val = (x a).val by omega))).trans hf]
  iapply Hk
  iexists f
  isplitr; · ipureintro; exact hf
  iexact H

abbrev commM : Memref sig .tc .vmem S4x256x512 .f32 := Memref.whole cc0_scratch0
abbrev outM : Memref sig .tc .vmem S4096x512 .f32 := Memref.whole cc0_stg2_0

/-- The kernel's load of a slot before it stores there; what it reads is not used. -/
theorem step_slotload (c : Dev nD) (k : Fin 4) {o : Fin 3 → ℕ} (ho : o = ![k.val, 0, 0]) (inb : ∀ a, o a + S1x256x512.size a ≤ S4x256x512.size a)
    (f : CommBuf F c) {hl : commM.view.LoadsAt (Rect.unit (s := S4x256x512) o S1x256x512.size inb).toLoadRect} (Q : Vec F S1x256x512 .f32 → sProp 𝕄) :
    slotPts c k f ⊢ iprop((∀ v, slotPts c k f -∗ Q v)
        -∗ wp frame (wpE (defs₀ (F := F)) 𝒱₀ (c : Thread nD τ) none) Set.univ (Prog.lift (.load commM (Rect.unit (s := S4x256x512) o S1x256x512.size inb).toLoadRect hl)) Q) := by
  iintro H Hk
  iapply (wp_load_rect 𝒱₀ (c : Thread nD τ) none Set.univ (m := commM) (r := Rect.unit (s := S4x256x512) o S1x256x512.size inb) (k := .ret) (S := slotSet c k) (f := f) (le_of_eq (slot_access k ho inb))) $$ [H]
  · iexact H
  iintro H
  rw [wp_ret]; imodintro
  iapply Hk
  iexact H

/-- The block stored in its slot. -/
theorem step_slotstore (c : Dev nD) (k : Fin 4) {o : Fin 3 → ℕ} (ho : o = ![k.val, 0, 0]) (inb : ∀ a, o a + S1x256x512.size a ≤ S4x256x512.size a)
    (f : CommBuf F c) (v10 : Vec F S256x4096 .f32) (v12 : Vec F S4096x512 .f32)
    {hx : (commM.access (Rect.unit (s := S4x256x512) o S1x256x512.size inb)).Stores Finset.univ} {hm} (Q : PUnit → sProp 𝕄) :
    slotPts c k f ⊢ iprop(((∃ f, ⌜(slotM k).view.read (Elt F) f = k0_pay1 v10 v12⌝ ∗ slotPts c k f) -∗ Q ⟨⟩)
        -∗ wp frame (wpE (defs₀ (F := F)) 𝒱₀ (c : Thread nD τ) none) Set.univ
          (Prog.lift (.store commM (Rect.unit (s := S4x256x512) o S1x256x512.size inb) (k0_pay2 v10 v12) Finset.univ hx hm)) Q) := by
  iintro H Hk
  iapply (wp_store 𝒱₀ (c : Thread nD τ) none Set.univ (m := commM) (r := Rect.unit (s := S4x256x512) o S1x256x512.size inb) (k := .ret) (S := slotSet c k) (f := f)
    ((View.setOn_subset_set _ _).trans (le_of_eq (slot_access k ho inb)))) $$ [H]
  · iexact H
  iintro H
  rw [wp_ret]; imodintro
  iapply Hk
  iexists _
  isplitr
  · ipureintro; exact slot_read k ho inb c f v10 v12
  iexact H

/-- The wait for a slot, as the kernel names its places. -/
theorem step_reuse (K : GSem nD τ sig → ℕ) (c : Dev nD) (u s : ℕ) (hu : u < 15) {a : DmaSem sig} (ha : a = dsem (4 + u % 4))
    {e₁ : EltTy} {s₁ : Shape} {p₁ : Space} (x : Memref sig .tc p₁ s₁ e₁) {o : Fin 3 → ℕ} {inb : ∀ a, o a + S1x256x512.size a ≤ S4x256x512.size a} {g1 h₁ h₂}
    (Q : PUnit → sProp 𝕄) :
    iprop(records m K ∗ levAts L lv ∗ (∃ W, owes (c : Thread nD τ) (owesRecv c s) W) ∗ Pend c u)
      ⊢ iprop(((∃ W, owes (c : Thread nD τ) (owesRecv c s) W) ∗ Slot c (u + 4) -∗ Q ⟨⟩)
        -∗ wp frame (wpE (defs₀ (F := F)) 𝒱₀ (c : Thread nD τ) none) Set.univ
          (Prog.lift (.waitDma2 a x ((commM.slice (Rect.unit (s := S4x256x512) o S1x256x512.size inb) (fun _ => rfl)).squeeze S256x512 g1) h₁ h₂)) Q) :=
  step_slotwait m K c u s hu ha x ((commM.slice (Rect.unit (s := S4x256x512) o S1x256x512.size inb) (fun _ => rfl)).squeeze S256x512 g1) rfl h₁ h₂ Q

/-- The state while the blocks of the other devices are received: those below `t` have come. -/
def Rcv (c : Dev nD) (t : ℕ) : sProp 𝕄 :=
  iprop((∃ W, owes (c : Thread nD τ) (owesRecv c 15) W) ∗ bigSep (Finset.Ico t 15) (Land c) ∗ bigSep (Finset.Ico 0 t) (Got m c))

/-- One receipt, as the kernel names its places. -/
theorem step_rcv (K : GSem nD τ sig → ℕ) (c : Dev nD) (t : ℕ) {i1 : ∀ a, (![t] : Fin 1 → ℕ) a + S1.size a ≤ S16.size a} {g0}
    {e₁ : EltTy} {s₁ : Shape} {p₁ : Space} (x : Memref sig .tc p₁ s₁ e₁) {o : Fin 2 → ℕ} {inb : ∀ a, o a + S256x512.size a ≤ S4096x512.size a} {h₁ h₂}
    (Q : PUnit → sProp 𝕄) :
    iprop(⌜t < 15⌝ ∗ records m K ∗ Rcv m c t)
      ⊢ iprop((Rcv m c (t + 1) -∗ Q ⟨⟩)
        -∗ wp frame (wpE (defs₀ (F := F)) 𝒱₀ (c : Thread nD τ) none) Set.univ
          (Prog.lift (.waitDma2 ((cc0_scratch2.slice (Rect.unit (s := S16) ![t] S1.size i1)).squeeze S_ g0).sem x
            (outM.slice (Rect.unit (s := S4096x512) o S256x512.size inb) (fun _ => rfl)) h₁ h₂)) Q) := by
  iintro ⟨%ht, #HR, H⟩ Hk
  unfold Rcv
  rw [bigSep_Ico_succ_bot ht, bigSep_Ico_succ_top (Nat.zero_le t)]
  icases H with ⟨HO, ⟨HL, Hrest⟩, Hgot⟩
  iapply (step_recv m K c t ht (recv_sem (t := ⟨t, by omega⟩) rfl i1) x (outM.slice (Rect.unit (s := S4096x512) o S256x512.size inb) (fun _ => rfl)) rfl h₁ h₂) $$ [HO HL]
  · isplitr; · iexact HR
    isplitl [HO] <;> iassumption
  iintro ⟨HO, HG⟩
  iapply Hk
  isplitl [HO]; · iexact HO
  isplitl [Hrest]; · iexact Hrest
  isplitl [HG] <;> iassumption

/-- The kernel's load of its own rows of the result; what it reads is not used. -/
theorem step_ownload (c : Dev nD) {o : Fin 2 → ℕ} (ho : o = ![256 * c.val, 0]) (inb : ∀ a, o a + S256x512.size a ≤ S4096x512.size a)
    (f : OutBuf F c) {hl : outM.view.LoadsAt (Rect.unit (s := S4096x512) o S256x512.size inb).toLoadRect} (Q : Vec F S256x512 .f32 → sProp 𝕄) :
    rowsPts c c f ⊢ iprop((∀ v, rowsPts c c f -∗ Q v)
        -∗ wp frame (wpE (defs₀ (F := F)) 𝒱₀ (c : Thread nD τ) none) Set.univ (Prog.lift (.load outM (Rect.unit (s := S4096x512) o S256x512.size inb).toLoadRect hl)) Q) := by
  subst ho
  iintro H Hk
  iapply (wp_load_rect 𝒱₀ (c : Thread nD τ) none Set.univ (m := outM) (r := Rect.unit (s := S4096x512) ![256 * c.val, 0] S256x512.size inb) (k := .ret) (S := rowSet c c) (f := f) (le_of_eq rfl)) $$ [H]
  · iexact H
  iintro H
  rw [wp_ret]; imodintro
  iapply Hk
  iexact H

/-- The own block stored in the own rows of the result. -/
theorem step_ownstore (c : Dev nD) {o : Fin 2 → ℕ} (ho : o = ![256 * c.val, 0]) (inb : ∀ a, o a + S256x512.size a ≤ S4096x512.size a)
    (f : OutBuf F c) (w : Vec F S256x512 .f32) (hw : w = blk m c c)
    {hx : (outM.access (Rect.unit (s := S4096x512) o S256x512.size inb)).Stores Finset.univ} {hm} (Q : PUnit → sProp 𝕄) :
    rowsPts c c f ⊢ iprop((rowsPts c c (OUT m c) -∗ Q ⟨⟩)
        -∗ wp frame (wpE (defs₀ (F := F)) 𝒱₀ (c : Thread nD τ) none) Set.univ
          (Prog.lift (.store outM (Rect.unit (s := S4096x512) o S256x512.size inb) w Finset.univ hx hm)) Q) := by
  subst ho
  iintro H Hk
  iapply (wp_store 𝒱₀ (c : Thread nD τ) none Set.univ (m := outM) (r := Rect.unit (s := S4096x512) ![256 * c.val, 0] S256x512.size inb) (k := .ret) (S := rowSet c c) (f := f)
    (View.setOn_subset_set _ _)) $$ [H]
  · iexact H
  iintro H
  rw [wp_ret]; imodintro
  iapply Hk
  iapply (Entails.of_eq (rows_write m c c f w hw))
  iexact H

/-- Block `s` sent: read out of its slot, landing in the own rows of the receiver's result. -/
theorem step_send (K : GSem nD τ sig → ℕ) (c : Dev nD) (s : ℕ) (hs : s < 15)
    {o9 : Fin 3 → ℕ} (h9 : o9 = ![(s4 s).val, 0, 0]) (i9 : ∀ a, o9 a + S1x256x512.size a ≤ S4x256x512.size a)
    {o8 : Fin 2 → ℕ} (h8 : o8 = ![256 * c.val, 0]) (i8 : ∀ a, o8 a + S256x512.size a ≤ S4096x512.size a)
    {p : Dev nD} (hp : p = dst c s) {a b : DmaSem sig} (ha : a = dsem (4 + s % 4)) (hb : b = dsem (8 + s))
    {g1 g2 g3 g4 g5} (f : CommBuf F c) (hf : (slotM (s4 s)).view.read (Elt F) f = blk m c (dst c s)) (Q : PUnit → sProp 𝕄) :
    iprop(records m K ∗ (∃ W, owes (c : Thread nD τ) (owesRecv c s) W) ∗ slotPts c (s4 s) f ∗ atPos ER (sendCell c s) (s / 4) ∅ 0 ∗ reached ER (sendCell c s) (s / 4)
        ∗ Tok c s ∗ Row c s)
      ⊢ iprop(((∃ W, owes (c : Thread nD τ) (owesRecv c (s + 1)) W) ∗ Pend c s -∗ Q ⟨⟩)
        -∗ wp frame (wpE (defs₀ (F := F)) 𝒱₀ (c : Thread nD τ) none) Set.univ
          (Prog.lift (.enqueueDma ((commM.slice (Rect.unit (s := S4x256x512) o9 S1x256x512.size i9) (fun _ => rfl)).squeeze S256x512 g1)
            (.remote (Dev.tc p) (outM.slice (Rect.unit (s := S4096x512) o8 S256x512.size i8) (fun _ => rfl)) (.dma a) g2) (.dma b) g3 g4 g5)) Q) := by
  have hb' : b = dsem (8 + s % 16) := by rw [Nat.mod_eq_of_lt (by omega)]; exact hb
  subst h9; subst h8; subst hp; subst ha; subst hb'
  unfold Tok Row Pend
  iintro ⟨#HR, ⟨%W, HO⟩, Hs, Hat, #Hr, ⟨HtS, HtR⟩, ⟨%fd, Hd⟩, #HrR⟩ Hk
  iapply (Rounds.wp_send_pointsTo 𝒱₀ ER (rd m) (c : Thread nD τ) none (c' := (dst c s : Thread nD τ)) (src := slotM (s4 s)) (dst := rowsM c)
      (sS := .dma (dsem (4 + s % 4))) (sem := .dma (dsem (8 + s % 16))) (q := fullShare) (fs := f) (κ₁ := K (sendCell c s)) (κ₂ := K (recvCell (dst c s) s))
      (r₁ := s / 4) (r₂ := 0) (d₁ := 0) (d₂ := 0) (fd := fd) (k := .ret)
      (by rw [duties_send m c hs]; exact Finset.mem_singleton_self _) (by rw [duties_recv m _ hs]; exact Finset.mem_singleton_self _)
      () () N rfl (amount_dma m c _ _ _) (amount_dma m (dst c s) _ _ _) (O₀ := owesRecv c s) (owesRecv c (s + 1)) (owesRecv_succ c hs) (W := W)
      (by rw [payload_send]; unfold sendPay; exact sProp.exists_intro f)
      (by rw [payload_recv m _ (by omega)]; unfold recvPay
          rw [show src (dst c s) s = c from src_dst c ⟨s, by omega⟩]
          exact Entails.of_eq (rows_write m (dst c s) c fd _ hf))) $$ [Hs Hd HO HtS HtR]
  · isplitr; · iapply (inv_send m K c s) $$ HR
    isplitr; · iapply (inv_recv m K (dst c s) s) $$ HR
    isplitl [Hs]; · iexact Hs
    isplitl [Hd]; · iexact Hd
    isplitl [HO]; · iexact HO
    isplitl [HtS]; · iexact HtS
    isplitr; · iexact Hr
    isplitl [HtR]; · iexact HtR
    iexact HrR
  iintro ⟨Hc, HO⟩
  rw [wp_ret]; imodintro
  iapply Hk
  isplitl [HO]; · iexists W; iexact HO
  isplitl [Hc] <;> iassumption

end Cert.KernelIdeal.Pf
-- ==== Proof.KernelIdeal.Send.lean ====
/- The body at the points before the last: the loads of the operands, the product, its store in a slot and the sending;
   before them the entry barrier (first point) or the wait for the slot (points 4 to 14). -/
module

public import proofs.«01_k».proof.Proof.KernelIdeal.Moves

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev LoM (o : Memref sig .tc .vmem S256x4096 .f32) (c : Dev nD) : sProp 𝕄 := owns (c : Thread nD τ) o fullShare (m ((c : Thread nD τ).loc main_arg0))
abbrev RoM (o : Memref sig .tc .vmem S4096x512 .f32) (c : Dev nD) (s : ℕ) : sProp 𝕄 := owns (c : Thread nD τ) o fullShare (wcol (m ((c : Thread nD τ).loc main_arg1)) (dst c s))

/-- From the loads of the operands to the end of a point that sends. -/
theorem send_tail (K : GSem nD τ sig → ℕ) (c : Dev nD) (t : Fin grid0.N) (hs : t.val < 15) (arg2 : Memref sig .tc .vmem S256x4096 .f32) (arg3 : Memref sig .tc .vmem S4096x512 .f32)
    (k0_hw1 : k0_chk1 (grid0.coords t) (wd c.val)) (k0_h3 : k0_cond3 (grid0.coords t) = 1#1) (Q : PUnit → sProp 𝕄) :
    iprop(records m K ∗ TblPts c ∗ LoM m arg2 c ∗ RoM m arg3 c t.val ∗ (∃ W, owes (c : Thread nD τ) (owesRecv c t.val) W) ∗ Slot c t.val ∗ Tok c t.val ∗ Row c t.val)
      ⊢ iprop((TblPts c ∗ LoM m arg2 c ∗ RoM m arg3 c t.val ∗ (∃ W, owes (c : Thread nD τ) (owesRecv c (t.val + 1)) W) ∗ Pend c t.val -∗ Q ⟨⟩)
        -∗ wp frame (wpE (defs₀ (F := F)) 𝒱₀ (c : Thread nD τ) none) Set.univ (do
          let v10 : Vec F S256x4096 .f32 ← Prog.lift (.load arg2 (Rect.unit (s := S256x4096) ![0, 0] S256x4096.size inb_S256x4096_S256x4096_0_0).toLoadRect (View.loadsAt_vmem h_S256x4096))
          let v12 : Vec F S4096x512 .f32 ← Prog.lift (.load arg3 (Rect.unit (s := S4096x512) ![0, 0] S4096x512.size inb_S4096x512_S4096x512_0_0).toLoadRect (View.loadsAt_vmem h_S4096x512))
          let v25 : Elt F .i32 ← smemLoad tblM (Rect.unit (s := S17) (k0_off4 (grid0.coords t)) S1.size (k0_off4_inb (grid0.coords t) k0_h3)) numel1_S1 rfl
          let k0_hw2 ← Prog.lift (TpuEff.assume (k0_chk2 (grid0.coords t) (wd c.val) v25) (k0_chk2.dec (grid0.coords t) (wd c.val) v25))
          let _ ← Prog.lift (.load commM (Rect.unit (s := S4x256x512) (k0_off5 (grid0.coords t)) S1x256x512.size (k0_off5_inb (grid0.coords t) k0_h3)).toLoadRect (View.loadsAt_vmem h_S1x256x512))
          Prog.lift (.store commM (Rect.unit (s := S4x256x512) (k0_off5 (grid0.coords t)) S1x256x512.size (k0_off5_inb (grid0.coords t) k0_h3)) (k0_pay2 v10 v12) Finset.univ (View.stores_vmem_bits_univ h_S1x256x512 rfl) (.inl rfl))
          Prog.lift (.enqueueDma ((commM.slice (Rect.unit (s := S4x256x512) (k0_off9 (grid0.coords t)) S1x256x512.size (k0_off9_inb (grid0.coords t) k0_h3)) (fun _ => rfl)).squeeze S256x512 squeezes_S1x256x512_S256x512)
            (.remote (Dev.tc (⟨k0_dev17 (wd c.val) v25, k0_dev17_lt (grid0.coords t) (wd c.val) v25 k0_hw2.down k0_h3⟩ : Dev nD))
              (outM.slice (Rect.unit (s := S4096x512) (k0_off8 (wd c.val)) S256x512.size (k0_off8_inb (grid0.coords t) (wd c.val) k0_hw1 k0_h3)) (fun _ => rfl))
              (.dma ((cc0_scratch1.slice (Rect.unit (s := S4) (k0_off6 (grid0.coords t)) S1.size (k0_off6_inb (grid0.coords t) k0_h3))).squeeze S_ squeezes_S1_S_).sem))
            (.dma ((cc0_scratch2.slice (Rect.unit (s := S16) (k0_off7 (grid0.coords t)) S1.size (k0_off7_inb (grid0.coords t) k0_h3))).squeeze S_ squeezes_S1_S_).sem)
            ((View.wordExact_bits rfl).reshape _ _) (View.wordExact_bits rfl) ⟨⟨rfl, Or.inl rfl⟩, trivial⟩)
          pure ⟨⟩) Q) := by
  have ht : t.val < 16 := t.isLt
  unfold Slot
  iintro ⟨#HR, HT, HL, HW, HO, ⟨⟨%f, Hs⟩, Hat, #Hr⟩, Htok, Hrow⟩ Hk
  rw [wp_bind]
  iapply (step_load (c := c) arg2 (by funext a; fin_cases a <;> rfl) _ (m ((c : Thread nD τ).loc main_arg0))) $$ HL
  iintro HL
  rw [wp_bind]
  iapply (step_load (c := c) arg3 (by funext a; fin_cases a <;> rfl) _ (wcol (m ((c : Thread nD τ).loc main_arg1)) (dst c t.val))) $$ HW
  iintro HW
  rw [wp_bind]
  iapply (step_table c (t.val + 1) (w := wd (perm t.val)) (if_neg (by omega)) (off4_eq t) _) $$ HT
  iintro HT
  rw [wp_bind]
  iapply (step_assume c (chk2_holds (grid0.coords t) c ⟨t.val, ht⟩))
  rw [wp_bind]
  iapply (step_slotload c (s4 t.val) (off5_eq t) _ f) $$ Hs
  iintro %v Hs
  rw [wp_bind]
  iapply (step_slotstore c (s4 t.val) (off5_eq t) _ f _ _) $$ Hs
  iintro ⟨%g, %hg, Hs⟩
  rw [wp_bind]
  iapply (step_send m K c t.val hs (off9_eq t) _ (off8_eq c) _ (p := ⟨k0_dev17 (wd c.val) (wd (perm t.val)), _⟩) (Fin.ext (dev17_eq c ⟨t.val, ht⟩))
    (slot_sem (k := s4 t.val) (off6_eq t) _) (recv_sem (t := ⟨t.val, ht⟩) (off7_eq t) _) g hg) $$ [HO Hs Hat Htok Hrow]
  · isplitr; · iexact HR
    isplitl [HO]; · iexact HO
    isplitl [Hs]; · iexact Hs
    isplitl [Hat]; · iexact Hat
    isplitr; · iexact Hr
    isplitl [Htok] <;> iassumption
  iintro ⟨HO, HP⟩
  rw [wp_pure]; imodintro
  iapply Hk
  isplitl [HT]; · iexact HT
  isplitl [HL]; · iexact HL
  isplitl [HW]; · iexact HW
  isplitl [HO] <;> iassumption

end Cert.KernelIdeal.Pf
-- ==== Proof.KernelIdeal.Body.lean ====
/- The body of the kernel at each grid point, from the protocol's state before it to the state after it. -/
module

public import proofs.«01_k».proof.Proof.KernelIdeal.Send

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The state between the points -/

/-- Before the first point: nothing signalled, nothing received. -/
def Start (c : Dev nD) : sProp 𝕄 :=
  iprop((∃ W, owes (c : Thread nD τ) (owesRecv c 0 + owesBar 0) W) ∗ (atPos ER (barCell c) 0 ∅ 0 ∗ cred (tallyAt (barCell c) () 16) ∗ bigSep Finset.univ (BarTok c))
    ∗ bigSep (Finset.Ico 0 4) (Slot c) ∗ bigSep (Finset.Ico 0 15) (Tok c) ∗ bigSep (Finset.Ico 0 15) (Land c))
/-- Before point `s`, from the second on. -/
def Run (c : Dev nD) (s : ℕ) : sProp 𝕄 :=
  iprop((∃ W, owes (c : Thread nD τ) (owesRecv c s) W) ∗ atPos ER (barCell c) 1 ∅ 0 ∗ bigSep (Finset.Ico (s - 4) s) (Pend c) ∗ bigSep (Finset.Ico s 4) (Slot c)
    ∗ bigSep (Finset.Ico s 15) (Tok c) ∗ bigSep (Finset.Ico s 16) (Row c) ∗ bigSep (Finset.Ico 0 15) (Land c))
/-- After the last point. -/
def Done (c : Dev nD) : sProp 𝕄 :=
  iprop((∃ W, owes (c : Thread nD τ) 0 W) ∗ atPos ER (barCell c) 1 ∅ 0 ∗ bigSep (Finset.Ico 15 19) (Slot c) ∗ bigSep (Finset.Ico 0 15) (Got m c) ∗ rowsPts c c (OUT m c))

/-- What every point has at hand and gives back. -/
def Bufs (arg2 : Memref sig .tc .vmem S256x4096 .f32) (arg3 : Memref sig .tc .vmem S4096x512 .f32) (c : Dev nD) (s : ℕ) : sProp 𝕄 :=
  iprop(TblPts c ∗ LoM m arg2 c ∗ RoM m arg3 c s)

/-! ## Sums over the devices, as runs over the steps -/

/-- Over all devices, in the order in which `c` sends to them. -/
theorem over_dst (c : Dev nD) (Φ : Dev nD → sProp 𝕄) : bigSep Finset.univ Φ = bigSep (Finset.Ico 0 16) fun t => Φ (dst c t) := by
  have h : (Finset.Ico 0 16).image (dst c) = Finset.univ :=
    Finset.eq_univ_iff_forall.2 fun p => Finset.mem_image.2 ⟨turn c p, Finset.mem_Ico.2 ⟨Nat.zero_le _, turn_lt c p⟩, dst_turn c p⟩
  rw [← h, bigSep_image_of_injOn]
  · intro a ha b hb h
    have ha := (Finset.mem_Ico.1 (Finset.mem_coe.1 ha)).2
    have hb := (Finset.mem_Ico.1 (Finset.mem_coe.1 hb)).2
    have := congrArg (turn c) h
    rwa [turn_dst c ⟨a, ha⟩, turn_dst c ⟨b, hb⟩] at this
/-- Over all devices, in the order in which they send to `c`. -/
theorem over_src (c : Dev nD) (Φ : Dev nD → sProp 𝕄) : bigSep Finset.univ Φ = bigSep (Finset.Ico 0 16) fun t => Φ (src c t) := by
  have h : (Finset.Ico 0 16).image (src c) = Finset.univ :=
    Finset.eq_univ_iff_forall.2 fun p => Finset.mem_image.2 ⟨turn p c, Finset.mem_Ico.2 ⟨Nat.zero_le _, turn_lt p c⟩, by
      have h := src_dst p ⟨turn p c, turn_lt p c⟩
      rwa [dst_turn] at h⟩
  rw [← h, bigSep_image_of_injOn]
  · intro a ha b hb h
    have ha := (Finset.mem_Ico.1 (Finset.mem_coe.1 ha)).2
    have hb := (Finset.mem_Ico.1 (Finset.mem_coe.1 hb)).2
    have h1 := turn_dst (src c a) ⟨a, ha⟩
    have h2 := turn_dst (src c b) ⟨b, hb⟩
    rw [dst_src c ⟨a, ha⟩] at h1
    rw [dst_src c ⟨b, hb⟩] at h2
    exact h1.symm.trans ((congrArg (fun q => turn q c) h).trans h2)
/-- Over all devices, by number. -/
def dv (p : ℕ) : Dev nD := ⟨p % 16, Nat.mod_lt _ (by decide)⟩
theorem dv_val (p : Dev nD) : dv p.val = p := Fin.ext (Nat.mod_eq_of_lt p.isLt)
theorem over_dv (Φ : Dev nD → sProp 𝕄) : bigSep Finset.univ Φ = bigSep (Finset.Ico 0 16) fun t => Φ (dv t) := by
  have h : (Finset.Ico 0 16).image dv = Finset.univ :=
    Finset.eq_univ_iff_forall.2 fun p => Finset.mem_image.2 ⟨p.val, Finset.mem_Ico.2 ⟨Nat.zero_le _, p.isLt⟩, dv_val p⟩
  rw [← h, bigSep_image_of_injOn]
  · intro a ha b hb h
    have ha := (Finset.mem_Ico.1 (Finset.mem_coe.1 ha)).2
    have hb := (Finset.mem_Ico.1 (Finset.mem_coe.1 hb)).2
    have := congrArg Fin.val h
    change a % 16 = b % 16 at this
    omega

/-- What the barrier's wait brings, in the order of the sends. -/
theorem rows_of_bar (c : Dev nD) : bigSep Finset.univ (fun p => (barPay c p : sProp 𝕄)) = bigSep (Finset.Ico 0 16) (Row c) := by
  rw [over_dst c]
  refine bigSep_congr fun t h => ?_
  have ht := (Finset.mem_Ico.1 h).2
  unfold barPay Row
  rw [turn_dst c ⟨t, ht⟩]

/-- Four places in a row. -/
theorem four (a : ℕ) (Φ : ℕ → sProp 𝕄) : bigSep (Finset.Ico a (a + 4)) Φ = iprop(Φ a ∗ Φ (a + 1) ∗ Φ (a + 2) ∗ Φ (a + 3)) := by
  rw [bigSep_Ico_succ_bot (show a < a + 4 by omega), bigSep_Ico_succ_bot (show a + 1 < a + 4 by omega), bigSep_Ico_succ_bot (show a + 1 + 1 < a + 4 by omega),
    bigSep_Ico_one]

theorem row_last (c : Dev nD) : (Row c 15 : sProp 𝕄) ⊢ iprop(∃ f, rowsPts c c f) := by
  unfold Row
  rw [dst_last]
  iintro ⟨H, -⟩
  iexact H

/-! ## The entry barrier -/

/-- The signals of the devices below `p` made. -/
def Sig (c : Dev nD) (p : ℕ) (W : Waits sig Unit) : sProp 𝕄 :=
  iprop(owes (c : Thread nD τ) (owesRecv c 0 + owesBar p) W ∗ bigSep (Finset.Ico p 16) fun q => BarTok c (dv q))

theorem sig_done (c : Dev nD) (W : Waits sig Unit) : (Sig c (15 + 1) W : sProp 𝕄) ⊢ owes (c : Thread nD τ) (owesRecv c 0) W := by
  unfold Sig
  rw [owesBar_end, add_zero]
  iintro ⟨H, -⟩
  iexact H

theorem step_sig (K : GSem nD τ sig → ℕ) (c d : Dev nD) (W : Waits sig Unit) (Q : PUnit → sProp 𝕄) :
    iprop(records m K ∗ Sig c d.val W)
      ⊢ iprop((Sig c (d.val + 1) W -∗ Q ⟨⟩)
        -∗ wp frame (wpE (defs₀ (F := F)) 𝒱₀ (c : Thread nD τ) none) Set.univ (semSignalWord d barrier0 1#32) Q) := by
  have hd : d.val < 16 := d.isLt
  unfold Sig
  rw [bigSep_Ico_succ_bot hd, dv_val]
  iintro ⟨#HR, HO, Ht, Hrest⟩ Hk
  iapply (step_signal m K c d rfl rfl W) $$ [HO Ht]
  · isplitr; · iexact HR
    isplitl [HO] <;> iassumption
  iintro HO
  iapply Hk
  isplitl [HO] <;> iassumption

set_option maxHeartbeats 1600000 in
theorem body_first (K : GSem nD τ sig → ℕ) (c : Dev nD) (t : Fin grid0.N) (h1 : t.val = 0) (arg2 : Memref sig .tc .vmem S256x4096 .f32) (harg2 : arg2.IsWhole)
    (arg3 : Memref sig .tc .vmem S4096x512 .f32) (harg3 : arg3.IsWhole) (hh1 hh2 hh3) (Q : PUnit → sProp 𝕄) :
    iprop(records m K ∗ levAts L lv ∗ Bufs m arg2 arg3 c t.val ∗ Start c)
      ⊢ iprop((Bufs m arg2 arg3 c t.val ∗ Run c 1 -∗ Q ⟨⟩)
        -∗ wp frame (wpE (defs₀ (F := F)) 𝒱₀ (c : Thread nD τ) none) Set.univ (cc0_body (F := F) (grid0.coords t) tblM hh1 arg2 harg2 arg3 harg3 outM hh2 commM hh3 cc0_scratch1 cc0_scratch2) Q) := by
  have c1 := (cond1_iff t).2 h1
  have c2 := mt (cond2_iff t).1 (by omega)
  have c3 := (cond3_iff t).2 (by omega)
  have c4 := mt (cond4_iff t).1 (by omega)
  rw [cc0_body_eq_skeleton]
  unfold cc0_body_skel
  simp only [dif_pos c1, dif_neg c2, dif_pos c3, dif_neg c4]
  rw [k0_part1_eq_skeleton]
  unfold k0_part1_skel Bufs Start
  simp only [bind_assoc, pure_bind]
  iintro ⟨#HR, #Hlev, ⟨HT, HL, HW⟩, ⟨%W, HO⟩, ⟨HatB, HcB, Hbar⟩, Hslot, Htok, Hland⟩ Hk
  rw [wp_bind]
  iapply (step_table c 0 (w := wd c.val) rfl rfl _) $$ HT
  iintro HT
  rw [wp_bind]
  iapply (step_assume c (chk1_holds (grid0.coords t) c))
  ihave HS : Sig c 0 W $$ [HO Hbar]
  · unfold Sig
    isplitl [HO]; · iexact HO
    iapply (Entails.of_eq (over_dv (fun p => (BarTok c p : sProp 𝕄)))) $$ Hbar
  iterate 16
    rw [wp_bind]
    iapply (step_sig m K c _ W) $$ [HS]
    · isplitr; · iexact HR
      iexact HS
    iintro HS
  ihave HO : owes (c : Thread nD τ) (owesRecv c 0) W $$ [HS]
  · iapply (sig_done c W)
    iexact HS
  rw [wp_bind]
  iapply (step_barwait m K c rfl W) $$ [HO HcB HatB]
  · isplitr; · iexact HR
    isplitr; · iexact Hlev
    isplitl [HO]; · iexact HO
    isplitl [HcB] <;> iassumption
  iintro ⟨HO, HatB, Hpay⟩
  ihave Hrow := (Entails.of_eq (rows_of_bar c)) $$ Hpay
  ihave H := (Entails.of_eq (bigSep_Ico_succ_bot (show 0 < 16 by decide) (Row c))) $$ Hrow
  icases H with ⟨Hr0, Hrow⟩
  ihave H := (Entails.of_eq (bigSep_Ico_succ_bot (show 0 < 15 by decide) (Tok c))) $$ Htok
  icases H with ⟨Ht0, Htok⟩
  ihave H := (Entails.of_eq (bigSep_Ico_succ_bot (show 0 < 4 by decide) (Slot c))) $$ Hslot
  icases H with ⟨Hs0, Hslot⟩
  iapply (send_tail m K c t (by omega) arg2 arg3 (chk1_holds (grid0.coords t) c) c3) $$ [HT HL HW HO Hr0 Ht0 Hs0]
  · rw [h1]
    isplitr; · iexact HR
    isplitl [HT]; · iexact HT
    isplitl [HL]; · iexact HL
    isplitl [HW]; · iexact HW
    isplitl [HO]; · iexact HO
    isplitl [Hs0]; · iexact Hs0
    isplitl [Ht0] <;> iassumption
  iintro ⟨HT, HL, HW, HO, HP⟩
  iapply Hk
  rw [h1]
  isplitl [HT HL HW]
  · isplitl [HT]; · iexact HT
    isplitl [HL] <;> iassumption
  unfold Run
  isplitl [HO]; · iexact HO
  isplitl [HatB]; · iexact HatB
  isplitl [HP]; · rw [show Finset.Ico (1 - 4) 1 = Finset.Ico 0 (0 + 1) from rfl, bigSep_Ico_one]; iexact HP
  isplitl [Hslot]; · iexact Hslot
  isplitl [Htok]; · iexact Htok
  isplitl [Hrow]; · iexact Hrow
  iexact Hland

/-- One of points 1 to 3: a fresh slot. -/
theorem body_fresh (K : GSem nD τ sig → ℕ) (c : Dev nD) (t : Fin grid0.N) (h1 : 1 ≤ t.val) (h2 : t.val < 4) (arg2 : Memref sig .tc .vmem S256x4096 .f32) (harg2 : arg2.IsWhole)
    (arg3 : Memref sig .tc .vmem S4096x512 .f32) (harg3 : arg3.IsWhole) (hh1 hh2 hh3) (Q : PUnit → sProp 𝕄) :
    iprop(records m K ∗ levAts L lv ∗ Bufs m arg2 arg3 c t.val ∗ Run c t.val)
      ⊢ iprop((Bufs m arg2 arg3 c t.val ∗ Run c (t.val + 1) -∗ Q ⟨⟩)
        -∗ wp frame (wpE (defs₀ (F := F)) 𝒱₀ (c : Thread nD τ) none) Set.univ (cc0_body (F := F) (grid0.coords t) tblM hh1 arg2 harg2 arg3 harg3 outM hh2 commM hh3 cc0_scratch1 cc0_scratch2) Q) := by
  have c1 := mt (cond1_iff t).1 (by omega)
  have c2 := mt (cond2_iff t).1 (by omega)
  have c3 := (cond3_iff t).2 (by omega)
  have c4 := mt (cond4_iff t).1 (by omega)
  rw [cc0_body_eq_skeleton]
  unfold cc0_body_skel Bufs Run
  simp only [dif_neg c1, dif_neg c2, dif_pos c3, dif_neg c4]
  iintro ⟨#HR, #Hlev, ⟨HT, HL, HW⟩, HO, HatB, Hpend, Hslot, Htok, Hrow, Hland⟩ Hk
  rw [wp_bind]
  iapply (step_table c 0 (w := wd c.val) rfl rfl _) $$ HT
  iintro HT
  rw [wp_bind]
  iapply (step_assume c (chk1_holds (grid0.coords t) c))
  ihave H := (Entails.of_eq (bigSep_Ico_succ_bot (show t.val < 16 by omega) (Row c))) $$ Hrow
  icases H with ⟨Hr0, Hrow⟩
  ihave H := (Entails.of_eq (bigSep_Ico_succ_bot (show t.val < 15 by omega) (Tok c))) $$ Htok
  icases H with ⟨Ht0, Htok⟩
  ihave H := (Entails.of_eq (bigSep_Ico_succ_bot h2 (Slot c))) $$ Hslot
  icases H with ⟨Hs0, Hslot⟩
  iapply (send_tail m K c t (by omega) arg2 arg3 (chk1_holds (grid0.coords t) c) c3) $$ [HT HL HW HO Hr0 Ht0 Hs0]
  · isplitr; · iexact HR
    isplitl [HT]; · iexact HT
    isplitl [HL]; · iexact HL
    isplitl [HW]; · iexact HW
    isplitl [HO]; · iexact HO
    isplitl [Hs0]; · iexact Hs0
    isplitl [Ht0] <;> iassumption
  iintro ⟨HT, HL, HW, HO, HP⟩
  iapply Hk
  isplitl [HT HL HW]
  · isplitl [HT]; · iexact HT
    isplitl [HL] <;> iassumption
  isplitl [HO]; · iexact HO
  isplitl [HatB]; · iexact HatB
  isplitl [HP Hpend]
  · rw [show t.val + 1 - 4 = t.val - 4 by omega, bigSep_Ico_succ_top (by omega)]
    isplitl [HP] <;> iassumption
  isplitl [Hslot]; · iexact Hslot
  isplitl [Htok]; · iexact Htok
  isplitl [Hrow]; · iexact Hrow
  iexact Hland

set_option maxHeartbeats 1600000 in
/-- One of points 4 to 14: the slot of four points before, once its send is over. -/
theorem body_reuse (K : GSem nD τ sig → ℕ) (c : Dev nD) (t : Fin grid0.N) (h1 : 4 ≤ t.val) (h2 : t.val < 15) (arg2 : Memref sig .tc .vmem S256x4096 .f32) (harg2 : arg2.IsWhole)
    (arg3 : Memref sig .tc .vmem S4096x512 .f32) (harg3 : arg3.IsWhole) (hh1 hh2 hh3) (Q : PUnit → sProp 𝕄) :
    iprop(records m K ∗ levAts L lv ∗ Bufs m arg2 arg3 c t.val ∗ Run c t.val)
      ⊢ iprop((Bufs m arg2 arg3 c t.val ∗ Run c (t.val + 1) -∗ Q ⟨⟩)
        -∗ wp frame (wpE (defs₀ (F := F)) 𝒱₀ (c : Thread nD τ) none) Set.univ (cc0_body (F := F) (grid0.coords t) tblM hh1 arg2 harg2 arg3 harg3 outM hh2 commM hh3 cc0_scratch1 cc0_scratch2) Q) := by
  have c1 := mt (cond1_iff t).1 (by omega)
  have c2 := (cond2_iff t).2 (by omega)
  have c3 := (cond3_iff t).2 (by omega)
  have c4 := mt (cond4_iff t).1 (by omega)
  rw [cc0_body_eq_skeleton]
  unfold cc0_body_skel Bufs Run
  simp only [dif_neg c1, dif_pos c2, dif_pos c3, dif_neg c4]
  iintro ⟨#HR, #Hlev, ⟨HT, HL, HW⟩, HO, HatB, Hpend, Hslot, Htok, Hrow, Hland⟩ Hk
  rw [wp_bind]
  iapply (step_table c 0 (w := wd c.val) rfl rfl _) $$ HT
  iintro HT
  rw [wp_bind]
  iapply (step_assume c (chk1_holds (grid0.coords t) c))
  ihave H := (Entails.of_eq (bigSep_Ico_succ_bot (show t.val - 4 < t.val by omega) (Pend c))) $$ Hpend
  icases H with ⟨Hp0, Hpend⟩
  rw [wp_bind]
  iapply (step_reuse m K c (t.val - 4) t.val (by omega)
    ((slot_sem (k := s4 t.val) (off2_eq t) _).trans (congrArg dsem (show 4 + t.val % 4 = 4 + (t.val - 4) % 4 by omega))) _) $$ [HO Hp0]
  · isplitr; · iexact HR
    isplitr; · iexact Hlev
    isplitl [HO] <;> iassumption
  iintro ⟨HO, Hs0⟩
  rw [show t.val - 4 + 4 = t.val by omega]
  ihave H := (Entails.of_eq (bigSep_Ico_succ_bot (show t.val < 16 by omega) (Row c))) $$ Hrow
  icases H with ⟨Hr0, Hrow⟩
  ihave H := (Entails.of_eq (bigSep_Ico_succ_bot (show t.val < 15 by omega) (Tok c))) $$ Htok
  icases H with ⟨Ht0, Htok⟩
  iapply (send_tail m K c t (by omega) arg2 arg3 (chk1_holds (grid0.coords t) c) c3) $$ [HT HL HW HO Hr0 Ht0 Hs0]
  · isplitr; · iexact HR
    isplitl [HT]; · iexact HT
    isplitl [HL]; · iexact HL
    isplitl [HW]; · iexact HW
    isplitl [HO]; · iexact HO
    isplitl [Hs0]; · iexact Hs0
    isplitl [Ht0] <;> iassumption
  iintro ⟨HT, HL, HW, HO, HP⟩
  iapply Hk
  isplitl [HT HL HW]
  · isplitl [HT]; · iexact HT
    isplitl [HL] <;> iassumption
  isplitl [HO]; · iexact HO
  isplitl [HatB]; · iexact HatB
  isplitl [HP Hpend]
  · rw [show t.val + 1 - 4 = t.val - 4 + 1 by omega, bigSep_Ico_succ_top (by omega)]
    isplitl [HP] <;> iassumption
  isplitr; · rw [Finset.Ico_eq_empty_of_le (by omega), bigSep_empty]; iempintro
  isplitl [Htok]; · iexact Htok
  isplitl [Hrow]; · iexact Hrow
  iexact Hland

set_option maxHeartbeats 4000000 in
/-- The last point: the own block stored, the other devices' received, the last four sends waited for. -/
theorem body_last (K : GSem nD τ sig → ℕ) (c : Dev nD) (t : Fin grid0.N) (h1 : t.val = 15) (arg2 : Memref sig .tc .vmem S256x4096 .f32) (harg2 : arg2.IsWhole)
    (arg3 : Memref sig .tc .vmem S4096x512 .f32) (harg3 : arg3.IsWhole) (hh1 hh2 hh3) (Q : PUnit → sProp 𝕄) :
    iprop(records m K ∗ levAts L lv ∗ Bufs m arg2 arg3 c t.val ∗ Run c t.val)
      ⊢ iprop((Bufs m arg2 arg3 c t.val ∗ Done m c -∗ Q ⟨⟩)
        -∗ wp frame (wpE (defs₀ (F := F)) 𝒱₀ (c : Thread nD τ) none) Set.univ (cc0_body (F := F) (grid0.coords t) tblM hh1 arg2 harg2 arg3 harg3 outM hh2 commM hh3 cc0_scratch1 cc0_scratch2) Q) := by
  have c1 := mt (cond1_iff t).1 (by omega)
  have c2 := mt (cond2_iff t).1 (by omega)
  have c3 := mt (cond3_iff t).1 (by omega)
  have c4 := (cond4_iff t).2 (by omega)
  rw [cc0_body_eq_skeleton]
  unfold cc0_body_skel Bufs Run
  simp only [dif_neg c1, dif_neg c2, dif_neg c3, dif_pos c4]
  rw [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  simp only [bind_assoc, pure_bind]
  iintro ⟨#HR, #Hlev, ⟨HT, HL, HW⟩, HO, HatB, Hpend, -, -, Hrow, Hland⟩ Hk
  rw [wp_bind]
  iapply (step_table c 0 (w := wd c.val) rfl rfl _) $$ HT
  iintro HT
  rw [wp_bind]
  iapply (step_assume c (chk1_holds (grid0.coords t) c))
  rw [wp_bind]
  iapply (step_load (c := c) arg2 (by funext a; fin_cases a <;> rfl) _ (m ((c : Thread nD τ).loc main_arg0))) $$ HL
  iintro HL
  rw [wp_bind]
  iapply (step_load (c := c) arg3 (by funext a; fin_cases a <;> rfl) _ (wcol (m ((c : Thread nD τ).loc main_arg1)) (dst c t.val))) $$ HW
  iintro HW
  rw [h1]
  ihave H := (Entails.of_eq (bigSep_Ico_one 15 (Row c))) $$ Hrow
  ihave H := (row_last c) $$ H
  icases H with ⟨%f, Hown⟩
  rw [wp_bind]
  iapply (step_ownload c (off10_eq c) _ f) $$ Hown
  iintro %v Hown
  rw [wp_bind]
  iapply (step_ownstore m c (off10_eq c) _ f _ (by rw [dst_last]; rfl)) $$ Hown
  iintro Hown
  ihave HS : Rcv m c 0 $$ [HO Hland]
  · unfold Rcv
    isplitl [HO]; · iexact HO
    isplitl [Hland]; · iexact Hland
    rw [Finset.Ico_self, bigSep_empty]; iempintro
  iterate 15
    rw [wp_bind]
    iapply (step_rcv m K c _ _) $$ [HS]
    · isplitr; · ipureintro; decide
      isplitr; · iexact HR
      iexact HS
    iintro HS
  unfold Rcv
  icases HS with ⟨HO, -, Hgot⟩
  ihave Hpend := (Entails.of_eq (four 11 (Pend c))) $$ Hpend
  icases Hpend with ⟨Hp0, Hp1, Hp2, Hp3⟩
  rw [wp_bind]
  iapply (step_reuse m K c 11 15 (by decide) (slot_sem (k := 3) rfl _) _) $$ [HO Hp0]
  · isplitr; · iexact HR
    isplitr; · iexact Hlev
    isplitl [HO] <;> iassumption
  iintro ⟨HO, Hs0⟩
  rw [wp_bind]
  iapply (step_reuse m K c 12 15 (by decide) (slot_sem (k := 0) rfl _) _) $$ [HO Hp1]
  · isplitr; · iexact HR
    isplitr; · iexact Hlev
    isplitl [HO] <;> iassumption
  iintro ⟨HO, Hs1⟩
  rw [wp_bind]
  iapply (step_reuse m K c 13 15 (by decide) (slot_sem (k := 1) rfl _) _) $$ [HO Hp2]
  · isplitr; · iexact HR
    isplitr; · iexact Hlev
    isplitl [HO] <;> iassumption
  iintro ⟨HO, Hs2⟩
  rw [wp_bind]
  iapply (step_reuse m K c 14 15 (by decide) (slot_sem (k := 2) rfl _) _) $$ [HO Hp3]
  · isplitr; · iexact HR
    isplitr; · iexact Hlev
    isplitl [HO] <;> iassumption
  iintro ⟨HO, Hs3⟩
  rw [wp_pure]
  imodintro
  iapply Hk
  isplitl [HT HL HW]
  · isplitl [HT]; · iexact HT
    isplitl [HL]; · iexact HL
    iexact HW
  unfold Done
  rw [owesRecv_end]
  isplitl [HO]; · iexact HO
  isplitl [HatB]; · iexact HatB
  isplitl [Hs0 Hs1 Hs2 Hs3]
  · iapply (Entails.of_eq (four 15 (Slot c)).symm)
    isplitl [Hs0]; · iexact Hs0
    isplitl [Hs1]; · iexact Hs1
    isplitl [Hs2]; · iexact Hs2
    iexact Hs3
  isplitl [Hgot]; · iexact Hgot
  iexact Hown

end Cert.KernelIdeal.Pf
-- ==== Proof.KernelIdeal.Fly.lean ====
/- The copies between the arrays and the staging buffers, and what each iteration of the loop is. -/
module

public import proofs.«01_k».proof.Proof.KernelIdeal.Body
public import proofs.«01_k».proof.Proof.KernelIdeal.Table
public import Idealize.ShloMosaic.Lib.Pipeline.Sound

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

/-! ## One copy on the device -/

section Copy
variable (c : Dev nD) {sp sp' : Space} {s : Shape} {e : EltTy} (src : Memref sig .tc sp s e) (dst : Memref sig .tc sp' s e) (sm : DmaSem sig)
  (q : PosShare TreeShare) (fs : Buf (Elt F) (src.view.loc (c : Thread nD τ)))

/-- A copy under way: the destination and what it reads are with it, the rest of the source is kept. -/
def Fly : sProp 𝕄 :=
  iprop((∃ fd, Transfers.Flight EC (c : Thread nD τ) (.dma sm) () dst.view.dmaCredit
      iprop((dst.view.loc (c : Thread nD τ) ↦{fullShare} dst.view.write (Elt F) fd (src.view.read (Elt F) fs) Finset.univ)
        ∗ (src.view.loc (c : Thread nD τ) ↦[src.view.set]{q} fs)))
    ∗ (src.view.loc (c : Thread nD τ) ↦[Finset.univ \ src.view.set]{q} fs))
/-- The copy done. -/
def Landed : sProp 𝕄 :=
  iprop((∃ fd, dst.view.loc (c : Thread nD τ) ↦{fullShare} dst.view.write (Elt F) fd (src.view.read (Elt F) fs) Finset.univ)
    ∗ (src.view.loc (c : Thread nD τ) ↦{q} fs) ∗ semVal ((c : Thread nD τ), .dma sm) 0)

theorem copy_start (hpos : 0 < s.numel) (bd : Option (𝕍).V) {h₁ h₂ h₃ α} {k : PUnit → Prog (TpuEff nD τ sig (Elt F) (Pipeline.Sig Λ₀ (Fin 1) fun p => (pcfgs (F := F) p).Adm) .tc) α} (Q : α → sProp 𝕄) :
    iprop((src.view.loc (c : Thread nD τ) ↦{q} fs) ∗ (∃ fd, dst.view.loc (c : Thread nD τ) ↦{fullShare} fd) ∗ semVal ((c : Thread nD τ), .dma sm) 0)
      ⊢ iprop((Fly c src dst sm q fs -∗ wp frame (wpE 𝔻 𝕍 (c : Thread nD τ) bd) Set.univ (k ⟨⟩) Q)
        -∗ wp frame (wpE 𝔻 𝕍 (c : Thread nD τ) bd) Set.univ (.op (.enqueueDma src (.here dst) (.dma sm) h₁ h₂ h₃) k) Q) := by
  iintro ⟨Hs, ⟨%fd, Hd⟩, Hv⟩ Hk
  ihave Hs := (pointsTo_split_subset (Finset.subset_univ src.view.set)).1 $$ Hs
  icases Hs with ⟨Hs, Hr⟩
  iapply (Transfers.wp_dmaLocal EC 𝕍 (c : Thread nD τ) bd () dst.view.dmaCredit rfl (View.dmaCredit_pos _ hpos) (Finset.subset_univ _)) $$ [Hs Hd Hv]
  · isplitl [Hs]; · iexact Hs
    isplitl [Hd]; · iexact Hd
    iexact Hv
  iintro HF
  iapply Hk
  unfold Fly
  isplitl [HF]
  · iexists fd
    iexact HF
  iexact Hr

theorem copy_wait (O : CellTallies nD τ sig Unit) (hO : (levAts L lv : sProp 𝕄) ⊢ MayWait (c : Thread nD τ) (.dma sm) () O)
    (bd : Option (𝕍).V) {h₁ h₂ α} {k : PUnit → Prog (TpuEff nD τ sig (Elt F) (Pipeline.Sig Λ₀ (Fin 1) fun p => (pcfgs (F := F) p).Adm) .tc) α} (Q : α → sProp 𝕄) :
    iprop(levAts L lv ∗ (∃ W, owes (c : Thread nD τ) O W) ∗ Fly c src dst sm q fs)
      ⊢ iprop(((∃ W, owes (c : Thread nD τ) O W) ∗ Landed c src dst sm q fs -∗ wp frame (wpE 𝔻 𝕍 (c : Thread nD τ) bd) Set.univ (k ⟨⟩) Q)
        -∗ wp frame (wpE 𝔻 𝕍 (c : Thread nD τ) bd) Set.univ (.op (.waitDma2 sm src dst h₁ h₂) k) Q) := by
  unfold Fly Landed
  iintro ⟨#Hlev, ⟨%W, HO⟩, ⟨%fd, HF⟩, Hr⟩ Hk
  ihave Hmw := hO $$ Hlev
  iapply (Transfers.wp_waitLocalO EC 𝕍 (c : Thread nD τ) bd () rfl) $$ [HF HO Hmw]
  · isplitl [HF]; · iexact HF
    isplitl [HO]; · iexact HO
    iexact Hmw
  iintro ⟨⟨Hd, Hs⟩, Hv, HO⟩
  iapply Hk
  isplitl [HO]; · iexists _; iexact HO
  isplitl [Hd]; · iexists fd; iexact Hd
  isplitl [Hs Hr]
  · iapply (pointsTo_split_subset (Finset.subset_univ src.view.set)).2
    isplitl [Hs] <;> iassumption
  iexact Hv
end Copy

/-! ## The windows -/

/-- The pipeline at device `c`'s table. -/
abbrev cf (c : Dev nD) : Pipeline.Cfg sig Λ₀ := cfg0 (F := F) (adm c)

theorem single_0 (c : Dev nD) : ((cf (F := F) c).win 0).single = true := rfl
theorem single_1 (c : Dev nD) : ((cf (F := F) c).win 1).single = false := rfl
theorem single_2 (c : Dev nD) : ((cf (F := F) c).win 2).single = true := rfl

theorem index_1 (c : Dev nD) (t : Fin grid0.N) : ((cf (F := F) c).win 1).index t = ![0, (dst c t.val).val] := tr1_eq c t

theorem fetch_0 (c : Dev nD) (t : Fin grid0.N) : ((cf (F := F) c).win 0).fetch t = decide (t.val = 0) := by
  unfold Pipeline.Window.fetch
  have h : ∀ u v, ((cf (F := F) c).win 0).index u = ((cf (F := F) c).win 0).index v := fun _ _ => rfl
  rw [decide_eq_false (show ¬ ∃ h : 0 < t.val, ((cf (F := F) c).win 0).index t ≠ ((cf (F := F) c).win 0).index ⟨t.val - 1, lt_of_le_of_lt (Nat.sub_le _ _) t.isLt⟩ from fun ⟨_, hn⟩ => hn (h _ _)), Bool.or_false]
  rfl
theorem fetch_2 (c : Dev nD) (t : Fin grid0.N) : ((cf (F := F) c).win 2).fetch t = false := rfl
theorem flush_0 (c : Dev nD) (t : Fin grid0.N) : ((cf (F := F) c).win 0).flush t = false := rfl
theorem flush_1 (c : Dev nD) (t : Fin grid0.N) : ((cf (F := F) c).win 1).flush t = false := rfl
theorem flush_2 (c : Dev nD) (t : Fin grid0.N) : ((cf (F := F) c).win 2).flush t = decide (t.val = 15) := by
  unfold Pipeline.Window.flush
  have h : ∀ u v, ((cf (F := F) c).win 2).index u = ((cf (F := F) c).win 2).index v := fun _ _ => rfl
  rw [decide_eq_false (show ¬ ∃ h : t.val + 1 < grid0.N, ((cf (F := F) c).win 2).index ⟨t.val + 1, h⟩ ≠ ((cf (F := F) c).win 2).index t from fun ⟨_, hn⟩ => hn (h _ _)), Bool.or_false]
  show decide (t.val + 1 = grid0.N) = _
  have h16 := N_0
  exact decide_eq_decide.2 (by omega)
theorem dst_step (c : Dev nD) (t : Fin 16) (h : 0 < t.val) : (dst c t.val).val ≠ (dst c (t.val - 1)).val := by
  revert c t; decide
theorem fetch_1 (c : Dev nD) (t : Fin grid0.N) : ((cf (F := F) c).win 1).fetch t = true := by
  unfold Pipeline.Window.fetch
  rcases Nat.eq_zero_or_pos t.val with h | h
  · simp [h]; rfl
  · have : ((cf (F := F) c).win 1).index t ≠ ((cf (F := F) c).win 1).index ⟨t.val - 1, lt_of_le_of_lt (Nat.sub_le _ _) t.isLt⟩ := fun he => by
      rw [index_1, index_1] at he
      exact dst_step c (t.cast N_0) h (congrFun he 1)
    rw [decide_eq_true (show ∃ h : 0 < t.val, ((cf (F := F) c).win 1).index t ≠ ((cf (F := F) c).win 1).index ⟨t.val - 1, lt_of_le_of_lt (Nat.sub_le _ _) t.isLt⟩ from ⟨h, this⟩), Bool.or_true]
    rfl

theorem slot_1 (c : Dev nD) : ∀ (t : ℕ) (h : t < grid0.N), (((cf (F := F) c).win 1).slot t h).val = t % 2
  | 0, _ => rfl
  | t + 1, h => by
    have ih := slot_1 c t (Nat.lt_of_succ_lt h)
    unfold Pipeline.Window.slot
    rw [show (if ((cf (F := F) c).win 1).isOut then ((cf (F := F) c).win 1).flush ⟨t, Nat.lt_of_succ_lt h⟩ else ((cf (F := F) c).win 1).fetch ⟨t + 1, h⟩) = true from fetch_1 c _]
    show ((((cf (F := F) c).win 1).slot t _).val + 1) % 2 = _
    rw [ih]; omega

/-! ## The iterations -/

theorem pro_eq (c : Dev nD) : (cf (F := F) c).prologue = 1 :=
  if_pos (decide_eq_true (show ∃ w : Fin 3, ((cf (F := F) c).win w).isOut = false from ⟨0, rfl⟩))
theorem epi_eq (c : Dev nD) : (cf (F := F) c).epilogue = 1 :=
  if_pos (decide_eq_true (show ∃ w : Fin 3, ((cf (F := F) c).win w).isOut = true from ⟨2, rfl⟩))
theorem trip_eq (c : Dev nD) : (cf (F := F) c).tripCount = 18 := by
  unfold Pipeline.Cfg.tripCount
  rw [pro_eq, epi_eq, show (cf (F := F) c).N = 16 from N_0]

abbrev PP (F : FTy → Type) [FloatOps F] : Type 1 := Prog (TpuEff nD τ sig (Elt F) (Pipeline.Sig Λ₀ (Fin 1) fun p => (pcfgs (F := F) p).Adm) .tc) PUnit

theorem at_some (c : Dev nD) {ℓ d : ℕ} (h : d ≤ ℓ) (h' : ℓ - d < grid0.N) (f : Fin grid0.N → PP F → PP F) (k : PP F) :
    (cf (F := F) c).atPoint (A := fun p => (pcfgs (F := F) p).Adm) ℓ d f k = f ⟨ℓ - d, h'⟩ k := by
  unfold Pipeline.Cfg.atPoint Pipeline.Cfg.point
  rw [dif_pos ⟨h, h'⟩]
theorem at_none (c : Dev nD) {ℓ d : ℕ} (h : ¬ (d ≤ ℓ ∧ ℓ - d < grid0.N)) (f : Fin grid0.N → PP F → PP F) (k : PP F) :
    (cf (F := F) c).atPoint (A := fun p => (pcfgs (F := F) p).Adm) ℓ d f k = k := by
  unfold Pipeline.Cfg.atPoint Pipeline.Cfg.point
  rw [dif_neg h]

/-- The steps of the three windows, one after another. -/
theorem each_eq (c : Dev nD) (p : Fin 3 → Bool) (f : Fin 3 → PP F → PP F) (k : PP F) {b0 b1 b2 : Bool} (h0 : p 0 = b0) (h1 : p 1 = b1) (h2 : p 2 = b2) :
    (cf (F := F) c).eachWin (A := fun p => (pcfgs (F := F) p).Adm) p f k
      = (fun k => if b0 then f 0 k else k) ((fun k => if b1 then f 1 k else k) ((fun k => if b2 then f 2 k else k) k)) := by
  subst h0 h1 h2; rfl

section
variable (c : Dev nD) (u : Fin grid0.N) (f : Fin 3 → PP F → PP F) (k : PP F)
theorem each_single_fetch : (cf (F := F) c).eachWin (A := fun p => (pcfgs (F := F) p).Adm) (fun w => ((cf (F := F) c).win w).single && ((cf (F := F) c).win w).fetch u) f k
    = if u.val = 0 then f 0 k else k := by
  refine (each_eq c _ f k (b0 := decide (u.val = 0)) (b1 := false) (b2 := false) (fetch_0 c u) rfl rfl).trans ?_
  by_cases h : u.val = 0 <;> simp [h]
theorem each_double_fetch : (cf (F := F) c).eachWin (A := fun p => (pcfgs (F := F) p).Adm) (fun w => !((cf (F := F) c).win w).single && ((cf (F := F) c).win w).fetch u) f k = f 1 k :=
  (each_eq c _ f k (b0 := false) (b1 := true) (b2 := false) rfl (fetch_1 c u) rfl).trans rfl
theorem each_fetch : (cf (F := F) c).eachWin (A := fun p => (pcfgs (F := F) p).Adm) (fun w => ((cf (F := F) c).win w).fetch u) f k
    = if u.val = 0 then f 0 (f 1 k) else f 1 k := by
  refine (each_eq c _ f k (b0 := decide (u.val = 0)) (b1 := true) (b2 := false) (fetch_0 c u) (fetch_1 c u) rfl).trans ?_
  by_cases h : u.val = 0 <;> simp [h]
theorem each_flush : (cf (F := F) c).eachWin (A := fun p => (pcfgs (F := F) p).Adm) (fun w => ((cf (F := F) c).win w).flush u) f k
    = if u.val = 15 then f 2 k else k := by
  refine (each_eq c _ f k (b0 := false) (b1 := false) (b2 := decide (u.val = 15)) rfl rfl (flush_2 c u)).trans ?_
  by_cases h : u.val = 15 <;> simp [h]
theorem each_single_flush : (cf (F := F) c).eachWin (A := fun p => (pcfgs (F := F) p).Adm) (fun w => ((cf (F := F) c).win w).single && ((cf (F := F) c).win w).flush u) f k
    = if u.val = 15 then f 2 k else k := by
  refine (each_eq c _ f k (b0 := false) (b1 := false) (b2 := decide (u.val = 15)) rfl rfl (flush_2 c u)).trans ?_
  by_cases h : u.val = 15 <;> simp [h]
theorem each_double_flush : (cf (F := F) c).eachWin (A := fun p => (pcfgs (F := F) p).Adm) (fun w => !((cf (F := F) c).win w).single && ((cf (F := F) c).win w).flush u) f k = k :=
  (each_eq c _ f k (b0 := false) (b1 := false) (b2 := false) rfl rfl rfl).trans rfl
end

/-- What an iteration does before its body's point: the fetches. -/
def opFetch (c : Dev nD) (w : Fin 3) (t : Fin grid0.N) (k : PP F) : PP F := .op ((cf (F := F) c).startIn w t) fun _ => k
def opWait (c : Dev nD) (w : Fin 3) (t : Fin grid0.N) (k : PP F) : PP F := .op ((cf (F := F) c).waitIn w t) fun _ => k
def opBody (c : Dev nD) (t : Fin grid0.N) (k : PP F) : PP F := .op (.call (Pipeline.kernel (cf (F := F) c).body) ((cf (F := F) c).bodyArgs t ((cf (F := F) c).slots t))) fun _ => k
def opPut (c : Dev nD) (t : Fin grid0.N) (k : PP F) : PP F := .op ((cf (F := F) c).startOut 2 t) fun _ => .op ((cf (F := F) c).waitOut 2 t) fun _ => k
def opNext (c : Dev nD) (ℓ : ℕ) : PP F := .op (.call (Pipeline.pipe (A := fun p => (pcfgs (F := F) p).Adm) (0 : Fin 1)) (adm c, ℓ)) fun _ => .ret ⟨⟩

theorem iter_zero (c : Dev nD) : (cf (F := F) c).iter (nD := nD) (τ := τ) (A := fun p => (pcfgs (F := F) p).Adm) (0 : Fin 1) (adm c) 0 = opFetch c 1 ⟨0, by rw [N_0]; decide⟩ (opNext c 1) := by
  have h16 := N_0
  unfold Pipeline.Cfg.iter
  rw [pro_eq, trip_eq, if_pos (by decide), at_none c (by omega), at_some c (by omega) (by omega), at_none c (by omega), at_none c (by omega), each_double_fetch]
  rfl

theorem iter_one (c : Dev nD) : (cf (F := F) c).iter (nD := nD) (τ := τ) (A := fun p => (pcfgs (F := F) p).Adm) (0 : Fin 1) (adm c) 1
    = opFetch c 0 ⟨0, by rw [N_0]; decide⟩ (opFetch c 1 ⟨1, by rw [N_0]; decide⟩ (opWait c 0 ⟨0, by rw [N_0]; decide⟩ (opWait c 1 ⟨0, by rw [N_0]; decide⟩
        (opBody c ⟨0, by rw [N_0]; decide⟩ (opNext c 2))))) := by
  have h16 := N_0
  unfold Pipeline.Cfg.iter
  rw [pro_eq, trip_eq, if_pos (by decide), at_some c (by omega) (by omega), at_some c (by omega) (by omega), at_some c (by omega) (by omega), at_none c (by omega)]
  rw [each_single_fetch, each_double_fetch, each_fetch, each_flush, each_single_flush, if_pos rfl, if_pos rfl, if_neg (show ¬ (1 - 1 = 15) by decide), if_neg (show ¬ (1 - 1 = 15) by decide)]
  rfl

theorem iter_mid (c : Dev nD) (ℓ : ℕ) (h : 2 ≤ ℓ) (h' : ℓ < grid0.N) (h'' : ℓ - 1 < grid0.N) : (cf (F := F) c).iter (nD := nD) (τ := τ) (A := fun p => (pcfgs (F := F) p).Adm) (0 : Fin 1) (adm c) ℓ
    = opFetch c 1 ⟨ℓ, h'⟩ (opWait c 1 ⟨ℓ - 1, h''⟩ (opBody c ⟨ℓ - 1, h''⟩ (opNext c (ℓ + 1)))) := by
  have h16 := N_0
  unfold Pipeline.Cfg.iter
  rw [pro_eq, trip_eq, if_pos (by omega), at_some c (by omega) h'', at_some c (by omega) h', at_some c (by omega) h'', at_some c (by omega) (by omega)]
  rw [each_single_fetch, each_double_fetch, each_fetch, each_flush, each_single_flush, each_double_flush, if_neg (show ¬ (ℓ - 1 = 0) by omega), if_neg (show ¬ (ℓ - 1 = 0) by omega), if_neg (show ¬ (ℓ - 1 = 15) by omega), if_neg (show ¬ (ℓ - 1 = 15) by omega)]
  rfl

theorem iter_last (c : Dev nD) : (cf (F := F) c).iter (nD := nD) (τ := τ) (A := fun p => (pcfgs (F := F) p).Adm) (0 : Fin 1) (adm c) 16
    = opWait c 1 ⟨15, by rw [N_0]; decide⟩ (opBody c ⟨15, by rw [N_0]; decide⟩ (opPut c ⟨15, by rw [N_0]; decide⟩ (opNext c 17))) := by
  have h16 := N_0
  unfold Pipeline.Cfg.iter
  rw [pro_eq, trip_eq, if_pos (by decide), at_some c (by omega) (by omega), at_none c (by omega), at_some c (by omega) (by omega), at_some c (by omega) (by omega)]
  rw [each_single_fetch, each_fetch, each_flush, each_single_flush, each_double_flush, if_neg (show ¬ (16 - 1 = 0) by decide), if_neg (show ¬ (16 - 1 = 0) by decide), if_pos rfl, if_pos rfl]
  rfl

theorem iter_end (c : Dev nD) : (cf (F := F) c).iter (nD := nD) (τ := τ) (A := fun p => (pcfgs (F := F) p).Adm) (0 : Fin 1) (adm c) 17 = (.ret ⟨⟩ : PP F) := by
  have h16 := N_0
  unfold Pipeline.Cfg.iter
  rw [pro_eq, trip_eq, if_neg (by decide), at_none c (by omega), at_none c (by omega), at_none c (by omega), at_some c (by omega) (by omega)]
  rw [each_double_flush]

end Cert.KernelIdeal.Pf
-- ==== Proof.KernelIdeal.Bring.lean ====
/- What the staging copies of the grid bring, and the body at any point. -/
module

public import proofs.«01_k».proof.Proof.KernelIdeal.Fly

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

/-! ## What the copies bring -/

theorem put_at {κ sp s e} (V : View sig κ sp s e) (f : V.ty.Contents (Elt F)) (w : s.Idx → Elt F e) (i : V.ty.Idx) (x : s.Idx) (h : V.emb x = i) :
    V.write (Elt F) f w Finset.univ i = _root_.cast (congrArg (Elt F) V.elt_eq.symm) (w x) := by
  subst h
  exact View.write_emb_of_mem _ _ (Finset.mem_univ _)

theorem row_read (c : Dev nD) (t : Fin grid0.N) (fd : Buf (Elt F) ((c : Thread nD τ).loc cc0_stg0_0)) (fs : Buf (Elt F) ((c : Thread nD τ).loc main_arg0)) :
    (((cf (F := F) c).win 0).stg t (0 : Fin 1)).view.write (Elt F) fd ((((cf (F := F) c).win 0).blk t).view.read (Elt F) fs) Finset.univ = (fs : S256x4096.Idx → F .f32) :=
  funext fun x : S256x4096.Idx => (put_at (((cf (F := F) c).win 0).stg t (0 : Fin 1)).view fd _ x x
    (funext fun a => Fin.ext (show 0 + 1 * (x a).val = (x a).val by omega))).trans
    (congrArg fs (funext fun a : Fin 2 => match a with
      | 0 => Fin.ext (show 0 * 256 + 1 * (x 0).val = (x 0).val by omega)
      | 1 => Fin.ext (show 0 * 4096 + 1 * (x 1).val = (x 1).val by omega)))

theorem col_emb (c : Dev nD) (t : Fin grid0.N) (fs : Buf (Elt F) ((c : Thread nD τ).loc main_arg1)) (x : S4096x512.Idx) :
    (((cf (F := F) c).win 1).blk t).view.read (Elt F) fs x = wcol fs (dst c t.val) x := by
  have h0 : ((cf (F := F) c).win 1).index t (0 : Fin 2) = 0 := congrFun (index_1 (F := F) c t) (0 : Fin 2)
  have h1 : ((cf (F := F) c).win 1).index t (1 : Fin 2) = (dst c t.val).val := congrFun (index_1 (F := F) c t) (1 : Fin 2)
  refine congrArg fs (funext fun a : Fin 2 => ?_)
  match a with
  | 0 =>
    refine Fin.ext (show ((cf (F := F) c).win 1).index t (0 : Fin 2) * 4096 + 1 * (x 0).val = (x 0).val from ?_)
    rw [h0]; omega
  | 1 =>
    refine Fin.ext (show ((cf (F := F) c).win 1).index t (1 : Fin 2) * 512 + 1 * (x 1).val = 512 * (dst c t.val).val + (x 1).val from ?_)
    rw [h1]; omega

theorem col_read_0 (c : Dev nD) (t : Fin grid0.N) (fd : Buf (Elt F) ((c : Thread nD τ).loc cc0_stg1_0)) (fs : Buf (Elt F) ((c : Thread nD τ).loc main_arg1)) :
    (((cf (F := F) c).win 1).stg t (0 : Fin 2)).view.write (Elt F) fd ((((cf (F := F) c).win 1).blk t).view.read (Elt F) fs) Finset.univ = (wcol fs (dst c t.val) : S4096x512.Idx → F .f32) :=
  funext fun x : S4096x512.Idx => (put_at (((cf (F := F) c).win 1).stg t (0 : Fin 2)).view fd ((((cf (F := F) c).win 1).blk t).view.read (Elt F) fs) x x
    (funext fun a => Fin.ext (show 0 + 1 * (x a).val = (x a).val by omega))).trans (col_emb c t fs x)

theorem col_read_1 (c : Dev nD) (t : Fin grid0.N) (fd : Buf (Elt F) ((c : Thread nD τ).loc cc0_stg1_1)) (fs : Buf (Elt F) ((c : Thread nD τ).loc main_arg1)) :
    (((cf (F := F) c).win 1).stg t (1 : Fin 2)).view.write (Elt F) fd ((((cf (F := F) c).win 1).blk t).view.read (Elt F) fs) Finset.univ = (wcol fs (dst c t.val) : S4096x512.Idx → F .f32) :=
  funext fun x : S4096x512.Idx => (put_at (((cf (F := F) c).win 1).stg t (1 : Fin 2)).view fd ((((cf (F := F) c).win 1).blk t).view.read (Elt F) fs) x x
    (funext fun a => Fin.ext (show 0 + 1 * (x a).val = (x a).val by omega))).trans (col_emb c t fs x)

theorem col_read (c : Dev nD) (t : Fin grid0.N) (b : Fin 2) (fd : Buf (Elt F) ((stage0_1 b).view.loc (c : Thread nD τ))) (fs : Buf (Elt F) ((c : Thread nD τ).loc main_arg1)) :
    (stage0_1 b).view.read (Elt F) ((((cf (F := F) c).win 1).stg t b).view.write (Elt F) fd ((((cf (F := F) c).win 1).blk t).view.read (Elt F) fs) Finset.univ)
      = wcol fs (dst c t.val) :=
  match b with
  | 0 => congrArg ((stage0_1 0).view.read (Elt F)) (col_read_0 c t fd fs)
  | 1 => congrArg ((stage0_1 1).view.read (Elt F)) (col_read_1 c t fd fs)

/-- Device `c`'s result, as its array. -/
def RES (c : Dev nD) : Buf (Elt F) ((c : Thread nD τ).loc main_v7) := (OUT m c : S4096x512.Idx → F .f32)

theorem out_read (c : Dev nD) (t : Fin grid0.N) (fd : Buf (Elt F) ((c : Thread nD τ).loc main_v7)) (fs : Buf (Elt F) ((c : Thread nD τ).loc cc0_stg2_0)) :
    (((cf (F := F) c).win 2).blk t).view.write (Elt F) fd ((((cf (F := F) c).win 2).stg t (0 : Fin 1)).view.read (Elt F) fs) Finset.univ = (fs : S4096x512.Idx → F .f32) :=
  funext fun x : S4096x512.Idx => (put_at (((cf (F := F) c).win 2).blk t).view fd _ x x
    (funext fun a : Fin 2 => match a with
      | 0 => Fin.ext (show 0 * 4096 + 1 * (x 0).val = (x 0).val by omega)
      | 1 => Fin.ext (show 0 * 512 + 1 * (x 1).val = (x 1).val by omega))).trans
    (congrArg fs (funext fun a => Fin.ext (show 0 + 1 * (x a).val = (x a).val by omega)))

/-! ## The state at each point -/

/-- The protocol's state before point `s`. -/
def St (c : Dev nD) (s : ℕ) : sProp 𝕄 := if s = 0 then Start c else if s < 16 then Run c s else Done m c

theorem body_at (K : GSem nD τ sig → ℕ) (c : Dev nD) (t : Fin grid0.N) (arg2 : Memref sig .tc .vmem S256x4096 .f32) (harg2 : arg2.IsWhole)
    (arg3 : Memref sig .tc .vmem S4096x512 .f32) (harg3 : arg3.IsWhole) (hh1 hh2 hh3) (Q : PUnit → sProp 𝕄) :
    iprop(records m K ∗ levAts L lv ∗ Bufs m arg2 arg3 c t.val ∗ St m c t.val)
      ⊢ iprop((Bufs m arg2 arg3 c t.val ∗ St m c (t.val + 1) -∗ Q ⟨⟩)
        -∗ wp frame (wpE (defs₀ (F := F)) 𝒱₀ (c : Thread nD τ) none) Set.univ (cc0_body (F := F) (grid0.coords t) tblM hh1 arg2 harg2 arg3 harg3 outM hh2 commM hh3 cc0_scratch1 cc0_scratch2) Q) := by
  have h16 : t.val < 16 := t.isLt.trans_eq N_0
  unfold St
  rcases Nat.eq_zero_or_pos t.val with h0 | h0
  · rw [if_pos h0, if_neg (by omega), if_pos (by omega), show t.val + 1 = 1 by omega]
    exact body_first m K c t h0 arg2 harg2 arg3 harg3 hh1 hh2 hh3 Q
  rw [if_neg (by omega), if_pos h16, if_neg (by omega)]
  by_cases h1 : t.val < 4
  · rw [if_pos (by omega)]
    exact body_fresh m K c t h0 h1 arg2 harg2 arg3 harg3 hh1 hh2 hh3 Q
  by_cases h2 : t.val < 15
  · rw [if_pos (by omega)]
    exact body_reuse m K c t (by omega) h2 arg2 harg2 arg3 harg3 hh1 hh2 hh3 Q
  · rw [if_neg (by omega)]
    exact body_last m K c t (by omega) arg2 harg2 arg3 harg3 hh1 hh2 hh3 Q

end Cert.KernelIdeal.Pf
-- ==== Proof.KernelIdeal.Loop.lean ====
/- The loop over the grid: the operands' blocks fetched ahead, the body at each point, the result written back. -/
module

public import proofs.«01_k».proof.Proof.KernelIdeal.Bring

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

/-! ## What is in which state -/

/-- The staging buffer of `w_mat`'s block at point `t`. -/
def sl (t : ℕ) : Fin 2 := ⟨t % 2, Nat.mod_lt _ (by decide)⟩
theorem slots_1 (c : Dev nD) (t : Fin grid0.N) : (cf (F := F) c).slots t 1 = sl t.val := Fin.ext (slot_1 c t.val t.isLt)
theorem slots_0 (c : Dev nD) (t : Fin grid0.N) : (cf (F := F) c).slots t 0 = (0 : Fin 1) := Subsingleton.elim (α := Fin 1) _ _
theorem startIn_eq (c : Dev nD) (w : Fin 3) (t : Fin grid0.N) (b : Fin ((cf (F := F) c).win w).nbuf) (hb : (cf (F := F) c).slots t w = b) :
    ((cf (F := F) c).startIn w t : TpuEff nD τ sig (Elt F) (Pipeline.Sig Λ₀ (Fin 1) fun p => (pcfgs (F := F) p).Adm) .tc PUnit)
      = .enqueueDma (((cf (F := F) c).win w).blk t) (.here (((cf (F := F) c).win w).stg t b)) (.dma (((cf (F := F) c).win w).sem b))
        (((cf (F := F) c).win w).wordExact_blk t) (((cf (F := F) c).win w).wordExact_stg t b) ⟨Or.inl rfl, trivial⟩ := by subst hb; rfl
theorem waitIn_eq (c : Dev nD) (w : Fin 3) (t : Fin grid0.N) (b : Fin ((cf (F := F) c).win w).nbuf) (hb : (cf (F := F) c).slots t w = b) :
    ((cf (F := F) c).waitIn w t : TpuEff nD τ sig (Elt F) (Pipeline.Sig Λ₀ (Fin 1) fun p => (pcfgs (F := F) p).Adm) .tc PUnit)
      = .waitDma2 (((cf (F := F) c).win w).sem b) (((cf (F := F) c).win w).blk t) (((cf (F := F) c).win w).stg t b)
        (((cf (F := F) c).win w).wordExact_blk t) (((cf (F := F) c).win w).wordExact_stg t b) := by subst hb; rfl
theorem startOut_eq (c : Dev nD) (w : Fin 3) (t : Fin grid0.N) (b : Fin ((cf (F := F) c).win w).nbuf) (hb : (cf (F := F) c).slots t w = b) :
    ((cf (F := F) c).startOut w t : TpuEff nD τ sig (Elt F) (Pipeline.Sig Λ₀ (Fin 1) fun p => (pcfgs (F := F) p).Adm) .tc PUnit)
      = .enqueueDma (((cf (F := F) c).win w).stg t b) (.here (((cf (F := F) c).win w).blk t)) (.dma (((cf (F := F) c).win w).sem b))
        (((cf (F := F) c).win w).wordExact_stg t b) (((cf (F := F) c).win w).wordExact_blk t) ⟨Or.inl rfl, trivial⟩ := by subst hb; rfl
theorem waitOut_eq (c : Dev nD) (w : Fin 3) (t : Fin grid0.N) (b : Fin ((cf (F := F) c).win w).nbuf) (hb : (cf (F := F) c).slots t w = b) :
    ((cf (F := F) c).waitOut w t : TpuEff nD τ sig (Elt F) (Pipeline.Sig Λ₀ (Fin 1) fun p => (pcfgs (F := F) p).Adm) .tc PUnit)
      = .waitDma2 (((cf (F := F) c).win w).sem b) (((cf (F := F) c).win w).stg t b) (((cf (F := F) c).win w).blk t)
        (((cf (F := F) c).win w).wordExact_stg t b) (((cf (F := F) c).win w).wordExact_blk t) := by subst hb; rfl
theorem slots_2 (c : Dev nD) (t : Fin grid0.N) : (cf (F := F) c).slots t 2 = (0 : Fin 1) := Subsingleton.elim (α := Fin 1) _ _

/-- The share of `w_mat` that staging buffer `b`'s copies read. -/
def qh (b : Fin 2) : PosShare TreeShare := if b = 0 then fullShare.left else fullShare.right

abbrev xPts (c : Dev nD) : sProp 𝕄 := ((c : Thread nD τ).loc main_arg0 ↦{fullShare} m ((c : Thread nD τ).loc main_arg0))
abbrev wPts (c : Dev nD) (q : PosShare TreeShare) : sProp 𝕄 := ((c : Thread nD τ).loc main_arg1 ↦{q} m ((c : Thread nD τ).loc main_arg1))

theorem wPts_halves (c : Dev nD) : (wPts m c fullShare) ⊣⊢ iprop(wPts m c (qh 0) ∗ wPts m c (qh 1)) :=
  pointsTo_share (PosShare.mem_left_op_right fullShare)

/-- `x`'s staging, unfilled. -/
def FreeX (c : Dev nD) : sProp 𝕄 := iprop(xPts m c ∗ (∃ f, (c : Thread nD τ).loc cc0_stg0_0 ↦{fullShare} f) ∗ semVal ((c : Thread nD τ), .dma cc0_sem0_0) 0)
/-- `x`'s staging, filled. -/
def FullX (c : Dev nD) : sProp 𝕄 := iprop(xPts m c ∗ LoM m (stage0_0 0) c ∗ semVal ((c : Thread nD τ), .dma cc0_sem0_0) 0)
def FlyX (c : Dev nD) (t : Fin grid0.N) : sProp 𝕄 := Fly c (((cf (F := F) c).win 0).blk t) (((cf (F := F) c).win 0).stg t (0 : Fin 1)) (((cf (F := F) c).win 0).sem (0 : Fin 1)) fullShare (m ((c : Thread nD τ).loc main_arg0))
/-- Staging buffer `b` of `w_mat`, unfilled. -/
def FreeW (c : Dev nD) (b : Fin 2) : sProp 𝕄 :=
  iprop(wPts m c (qh b) ∗ (∃ f, (stage0_1 b).view.loc (c : Thread nD τ) ↦{fullShare} f) ∗ semVal ((c : Thread nD τ), .dma (sem0_1 b)) 0)
/-- Staging buffer `b` of `w_mat`, filled for point `t`. -/
def FullW (c : Dev nD) (b : Fin 2) (t : ℕ) : sProp 𝕄 := iprop(wPts m c (qh b) ∗ RoM m (stage0_1 b) c t ∗ semVal ((c : Thread nD τ), .dma (sem0_1 b)) 0)
def FlyW (c : Dev nD) (b : Fin 2) (t : Fin grid0.N) : sProp 𝕄 := Fly c (((cf (F := F) c).win 1).blk t) (((cf (F := F) c).win 1).stg t b) (((cf (F := F) c).win 1).sem b) (qh b) (m ((c : Thread nD τ).loc main_arg1))
/-- The result's place, unwritten. -/
def FreeO (c : Dev nD) : sProp 𝕄 := iprop((∃ f, (c : Thread nD τ).loc main_v7 ↦{fullShare} f) ∗ semVal ((c : Thread nD τ), .dma cc0_sem2_0) 0)
/-- The result written. -/
def FullO (c : Dev nD) : sProp 𝕄 := iprop(((c : Thread nD τ).loc main_v7 ↦{fullShare} RES m c) ∗ (∃ f, (c : Thread nD τ).loc cc0_stg2_0 ↦{fullShare} f) ∗ semVal ((c : Thread nD τ), .dma cc0_sem2_0) 0)
/-- What is left of the protocol after the last point. -/
def Rest (c : Dev nD) : sProp 𝕄 :=
  iprop((∃ W, owes (c : Thread nD τ) 0 W) ∗ atPos ER (barCell c) 1 ∅ 0 ∗ bigSep (Finset.Ico 15 19) (Slot c) ∗ bigSep (Finset.Ico 0 15) fun t => atPos ER (recvCell c t) 1 ∅ 0)

/-- What `c` owes before point `s`. -/
def Ow (c : Dev nD) (s : ℕ) : CellTallies nD τ sig Unit := if s = 0 then O₀ c else if s < 16 then owesRecv c s else 0

theorem st_owes (c : Dev nD) (s : ℕ) : (St m c s) ⊢ iprop((∃ W, owes (c : Thread nD τ) (Ow c s) W) ∗ ((∃ W, owes (c : Thread nD τ) (Ow c s) W) -∗ St m c s)) := by
  unfold St Ow
  by_cases h0 : s = 0
  · rw [if_pos h0, if_pos h0]
    unfold Start
    iintro ⟨HO, H⟩
    isplitl [HO]; · iexact HO
    iintro HO
    isplitl [HO]; · iexact HO
    iexact H
  rw [if_neg h0, if_neg h0]
  by_cases h1 : s < 16
  · rw [if_pos h1, if_pos h1]
    unfold Run
    iintro ⟨HO, H⟩
    isplitl [HO]; · iexact HO
    iintro HO
    isplitl [HO]; · iexact HO
    iexact H
  · rw [if_neg h1, if_neg h1]
    unfold Done
    iintro ⟨HO, H⟩
    isplitl [HO]; · iexact HO
    iintro HO
    isplitl [HO]; · iexact HO
    iexact H

theorem mayWait_Ow (c : Dev nD) {d : DmaSem sig} (hd : d.val < 8) (s : ℕ) : (levAts L lv : sProp 𝕄) ⊢ MayWait (c : Thread nD τ) (.dma d) () (Ow c s) := by
  unfold Ow
  split_ifs
  · exact mayWait_low_all c hd
  · exact mayWait_low_recv c hd s
  · exact mayWait_low c hd _ fun _ _ h => absurd h (lt_irrefl _)

theorem sem_low (b : Fin 2) : (sem0_1 b : DmaSem sig).val < 8 := by revert b; decide

theorem filled_x (c : Dev nD) (t : Fin grid0.N) (fd : Buf (Elt F) ((c : Thread nD τ).loc cc0_stg0_0)) :
    ((c : Thread nD τ).loc cc0_stg0_0 ↦{fullShare} (((cf (F := F) c).win 0).stg t (0 : Fin 1)).view.write (Elt F) fd ((((cf (F := F) c).win 0).blk t).view.read (Elt F) (m ((c : Thread nD τ).loc main_arg0))) Finset.univ)
      ⊢ LoM m (stage0_0 0) c :=
  (Entails.of_eq (congrArg (fun f => ((c : Thread nD τ).loc cc0_stg0_0 ↦{fullShare} f : sProp 𝕄)) (row_read c t fd (m ((c : Thread nD τ).loc main_arg0))))).trans
    (Entails.of_eq (owns_whole (c : Thread nD τ) cc0_stg0_0 fullShare (m ((c : Thread nD τ).loc main_arg0))).symm)

theorem filled_w (c : Dev nD) (b : Fin 2) (t : Fin grid0.N) (fd : Buf (Elt F) ((stage0_1 b).view.loc (c : Thread nD τ))) :
    ((stage0_1 b).view.loc (c : Thread nD τ) ↦{fullShare} (((cf (F := F) c).win 1).stg t b).view.write (Elt F) fd ((((cf (F := F) c).win 1).blk t).view.read (Elt F) (m ((c : Thread nD τ).loc main_arg1))) Finset.univ)
      ⊢ RoM m (stage0_1 b) c t.val := by
  unfold RoM owns
  iintro Hd
  iexists _
  isplitr
  · ipureintro
    exact col_read c t b fd (m ((c : Thread nD τ).loc main_arg1))
  rw [(hstage0_1 b).set_eq_univ]
  iexact Hd

theorem filled_o (c : Dev nD) (t : Fin grid0.N) (fd : Buf (Elt F) ((c : Thread nD τ).loc main_v7)) :
    ((c : Thread nD τ).loc main_v7 ↦{fullShare} (((cf (F := F) c).win 2).blk t).view.write (Elt F) fd ((((cf (F := F) c).win 2).stg t (0 : Fin 1)).view.read (Elt F) (OUT m c)) Finset.univ : sProp 𝕄)
      ⊢ ((c : Thread nD τ).loc main_v7 ↦{fullShare} RES m c) :=
  Entails.of_eq (congrArg (fun f => ((c : Thread nD τ).loc main_v7 ↦{fullShare} f : sProp 𝕄)) (out_read c t fd (OUT m c)))

theorem full_free (c : Dev nD) (b : Fin 2) (t : ℕ) : FullW m c b t ⊢ FreeW m c b := by
  unfold FullW FreeW RoM owns
  iintro ⟨Hw, ⟨%f, -, H⟩, Hv⟩
  isplitl [Hw]; · iexact Hw
  isplitl [H]
  · iexists f
    rw [(hstage0_1 b).set_eq_univ]
    iexact H
  iexact Hv

/-! ## The single steps -/

theorem fetchX (c : Dev nD) (t : Fin grid0.N) (bd : Option (𝕍).V) (k : PP F) (Q : PUnit → sProp 𝕄) :
    FreeX m c ⊢ iprop((FlyX m c t -∗ wp frame (wpE 𝔻 𝕍 (c : Thread nD τ) bd) Set.univ k Q) -∗ wp frame (wpE 𝔻 𝕍 (c : Thread nD τ) bd) Set.univ (opFetch c 0 t k) Q) := by
  unfold FreeX FlyX opFetch
  rw [startIn_eq c 0 t (0 : Fin 1) (slots_0 c t)]
  exact copy_start c (((cf (F := F) c).win 0).blk t) (((cf (F := F) c).win 0).stg t (0 : Fin 1)) (((cf (F := F) c).win 0).sem (0 : Fin 1)) fullShare (m ((c : Thread nD τ).loc main_arg0)) h_S256x4096 bd (k := fun _ => k) Q

theorem fetchW (c : Dev nD) (b : Fin 2) (t : Fin grid0.N) (hb : b = sl t.val) (bd : Option (𝕍).V) (k : PP F) (Q : PUnit → sProp 𝕄) :
    FreeW m c b ⊢ iprop((FlyW m c b t -∗ wp frame (wpE 𝔻 𝕍 (c : Thread nD τ) bd) Set.univ k Q) -∗ wp frame (wpE 𝔻 𝕍 (c : Thread nD τ) bd) Set.univ (opFetch c 1 t k) Q) := by
  unfold FreeW FlyW opFetch
  rw [startIn_eq c 1 t b ((slots_1 c t).trans hb.symm)]
  exact copy_start c (((cf (F := F) c).win 1).blk t) (((cf (F := F) c).win 1).stg t b) (((cf (F := F) c).win 1).sem b) (qh b) (m ((c : Thread nD τ).loc main_arg1)) h_S4096x512 bd (k := fun _ => k) Q

theorem waitX (c : Dev nD) (t : Fin grid0.N) (s : ℕ) (bd : Option (𝕍).V) (k : PP F) (Q : PUnit → sProp 𝕄) :
    iprop(levAts L lv ∗ FlyX m c t ∗ St m c s)
      ⊢ iprop((FullX m c ∗ St m c s -∗ wp frame (wpE 𝔻 𝕍 (c : Thread nD τ) bd) Set.univ k Q) -∗ wp frame (wpE 𝔻 𝕍 (c : Thread nD τ) bd) Set.univ (opWait c 0 t k) Q) := by
  unfold FlyX FullX opWait
  rw [waitIn_eq c 0 t (0 : Fin 1) (slots_0 c t)]
  iintro ⟨#Hlev, HF, HSt⟩ Hk
  ihave HSt := (st_owes m c s) $$ HSt
  icases HSt with ⟨HO, HSt⟩
  iapply (copy_wait c (((cf (F := F) c).win 0).blk t) (((cf (F := F) c).win 0).stg t (0 : Fin 1)) (((cf (F := F) c).win 0).sem (0 : Fin 1)) fullShare (m ((c : Thread nD τ).loc main_arg0)) (Ow c s) (mayWait_Ow c (show (cc0_sem0_0 : DmaSem sig).val < 8 by decide) s) bd Q) $$ [HO HF]
  · isplitr; · iexact Hlev
    isplitl [HO]; · iexact HO
    iexact HF
  unfold Landed
  iintro ⟨HO, ⟨%fd, Hd⟩, Hs, Hv⟩
  iapply Hk
  isplitr [HO HSt]
  · isplitl [Hs]; · iexact Hs
    isplitl [Hd]
    · iapply (filled_x m c t fd)
      iexact Hd
    iexact Hv
  iapply HSt $$ HO

theorem waitW (c : Dev nD) (b : Fin 2) (t : Fin grid0.N) (hb : b = sl t.val) (s : ℕ) (bd : Option (𝕍).V) (k : PP F) (Q : PUnit → sProp 𝕄) :
    iprop(levAts L lv ∗ FlyW m c b t ∗ St m c s)
      ⊢ iprop((FullW m c b t.val ∗ St m c s -∗ wp frame (wpE 𝔻 𝕍 (c : Thread nD τ) bd) Set.univ k Q) -∗ wp frame (wpE 𝔻 𝕍 (c : Thread nD τ) bd) Set.univ (opWait c 1 t k) Q) := by
  unfold FlyW FullW opWait
  rw [waitIn_eq c 1 t b ((slots_1 c t).trans hb.symm)]
  iintro ⟨#Hlev, HF, HSt⟩ Hk
  ihave HSt := (st_owes m c s) $$ HSt
  icases HSt with ⟨HO, HSt⟩
  iapply (copy_wait c (((cf (F := F) c).win 1).blk t) (((cf (F := F) c).win 1).stg t b) (((cf (F := F) c).win 1).sem b) (qh b) (m ((c : Thread nD τ).loc main_arg1)) (Ow c s)
    (mayWait_Ow c (sem_low b) s) bd Q) $$ [HO HF]
  · isplitr; · iexact Hlev
    isplitl [HO]; · iexact HO
    iexact HF
  unfold Landed
  iintro ⟨HO, ⟨%fd, Hd⟩, Hs, Hv⟩
  iapply Hk
  isplitr [HO HSt]
  · isplitl [Hs]; · iexact Hs
    isplitl [Hd]
    · iapply (filled_w m c b t fd)
      iexact Hd
    iexact Hv
  iapply HSt $$ HO

theorem putO (c : Dev nD) (t : Fin grid0.N) (bd : Option (𝕍).V) (k : PP F) (Q : PUnit → sProp 𝕄) :
    iprop(levAts L lv ∗ FreeO c ∗ ((c : Thread nD τ).loc cc0_stg2_0 ↦{fullShare} OUT m c) ∗ (∃ W, owes (c : Thread nD τ) 0 W))
      ⊢ iprop((FullO m c ∗ (∃ W, owes (c : Thread nD τ) 0 W) -∗ wp frame (wpE 𝔻 𝕍 (c : Thread nD τ) bd) Set.univ k Q) -∗ wp frame (wpE 𝔻 𝕍 (c : Thread nD τ) bd) Set.univ (opPut c t k) Q) := by
  unfold FreeO FullO opPut
  rw [startOut_eq c 2 t (0 : Fin 1) (slots_2 c t), waitOut_eq c 2 t (0 : Fin 1) (slots_2 c t)]
  iintro ⟨#Hlev, ⟨Hr, Hv⟩, Hs, HO⟩ Hk
  iapply (copy_start c (((cf (F := F) c).win 2).stg t (0 : Fin 1)) (((cf (F := F) c).win 2).blk t) (((cf (F := F) c).win 2).sem (0 : Fin 1)) fullShare (OUT m c) h_S4096x512 bd Q) $$ [Hr Hv Hs]
  · isplitl [Hs]; · iexact Hs
    isplitl [Hr]; · iexact Hr
    iexact Hv
  iintro HF
  iapply (copy_wait c (((cf (F := F) c).win 2).stg t (0 : Fin 1)) (((cf (F := F) c).win 2).blk t) (((cf (F := F) c).win 2).sem (0 : Fin 1)) fullShare (OUT m c) 0
    (mayWait_low c (show (cc0_sem2_0 : DmaSem sig).val < 8 by decide) _ fun _ _ h => absurd h (lt_irrefl _)) bd Q) $$ [HO HF]
  · isplitr; · iexact Hlev
    isplitl [HO]; · iexact HO
    iexact HF
  unfold Landed
  iintro ⟨HO, ⟨%fd, Hd⟩, Hs, Hv⟩
  iapply Hk
  isplitr [HO]
  · isplitl [Hd]
    · iapply (filled_o m c t fd)
      iexact Hd
    isplitl [Hs]; · iexists _; iexact Hs
    iexact Hv
  iexact HO

theorem body_prog (c : Dev nD) (t : Fin grid0.N) :
    defs₀ (F := F) .tc (cf (F := F) c).body ((cf (F := F) c).bodyArgs t ((cf (F := F) c).slots t))
      = cc0_body (F := F) (grid0.coords t) tblM (Memref.isWhole_whole _) (spec0_0.stage ((cf (F := F) c).slots t 0)) (hstage0_0 (((cf (F := F) c).slots t 0 : Fin spec0_0.nbuf).cast nbuf0_0))
        (spec0_1.stage ((cf (F := F) c).slots t 1)) (hstage0_1 (((cf (F := F) c).slots t 1 : Fin spec0_1.nbuf).cast nbuf0_1)) outM (hstage0_2 0) commM (Memref.isWhole_whole _) cc0_scratch1 cc0_scratch2 := by
  have h : spec0_2.stage ((cf (F := F) c).slots t 2) = outM := by rw [slots_2 c t]
  show cc0_body (F := F) _ _ _ _ _ _ _ (spec0_2.stage ((cf (F := F) c).slots t 2)) _ _ _ _ _ = _
  congr 1

theorem bodyStep (K : GSem nD τ sig → ℕ) (c : Dev nD) (b : Fin 2) (t : Fin grid0.N) (hb : b = sl t.val) (n : ℕ) (k : PP F) (Q : PUnit → sProp 𝕄) :
    iprop(records m K ∗ levAts L lv ∗ TblPts c ∗ FullX m c ∗ FullW m c b t.val ∗ St m c t.val)
      ⊢ iprop((TblPts c ∗ FullX m c ∗ FreeW m c b ∗ St m c (t.val + 1) -∗ wp frame (wpE 𝔻 𝕍 (c : Thread nD τ) (some (Sum.inr n))) Set.univ k Q)
        -∗ wp frame (wpE 𝔻 𝕍 (c : Thread nD τ) (some (Sum.inr n))) Set.univ (opBody c t k) Q) := by
  unfold opBody
  have e0 : stage0_0 0 = spec0_0.stage ((cf (F := F) c).slots t 0) := by rw [slots_0 c t]
  have e1 : stage0_1 b = spec0_1.stage ((cf (F := F) c).slots t 1) := by rw [slots_1 c t, ← hb]
  iintro ⟨#Hrec, #Hlev, HT, HX, HW, HSt⟩ Hk
  iapply (wp_call 𝕍 (c : Thread nD τ) (some (Sum.inr n)) Set.univ (Q := Q) (ℓ := Pipeline.kernel (cf (F := F) c).body) (a := (cf (F := F) c).bodyArgs t ((cf (F := F) c).slots t)) (k := fun _ => k) (Sum.inl none)
    (fun v hv => by cases hv; exact Sum.Lex.sep _ _))
  iapply (show wp frame (wpE 𝔻 𝕍 (c : Thread nD τ) (some (.inl none))) Set.univ (Pipeline.liftProg (defs₀ (F := F) .tc (cf (F := F) c).body ((cf (F := F) c).bodyArgs t ((cf (F := F) c).slots t)))) _
    ⊢ wp frame (wpE 𝔻 𝕍 (c : Thread nD τ) (some (.inl none))) Set.univ (𝔻 .tc (Pipeline.kernel (cf (F := F) c).body) ((cf (F := F) c).bodyArgs t ((cf (F := F) c).slots t))) _ from by rw [Pipeline.defs_kernel])
  rw [body_prog c t]
  iapply (Pipeline.wp_liftProg 𝔻 (Pipeline.defs_kernel (pcfgs (F := F)) (defs₀ (F := F))) 𝒱₀ (c : Thread nD τ) Set.univ none)
  unfold FullX FullW
  rw [e0, e1]
  icases HX with ⟨Hx, HL, Hvx⟩
  icases HW with ⟨Hw, HR, Hvw⟩
  iapply (body_at m K c t (spec0_0.stage ((cf (F := F) c).slots t 0)) (hstage0_0 (((cf (F := F) c).slots t 0 : Fin spec0_0.nbuf).cast nbuf0_0)) (spec0_1.stage ((cf (F := F) c).slots t 1)) (hstage0_1 (((cf (F := F) c).slots t 1 : Fin spec0_1.nbuf).cast nbuf0_1)) (Memref.isWhole_whole _) (hstage0_2 0) (Memref.isWhole_whole _) _) $$ [HT HL HR HSt]
  · isplitr; · iexact Hrec
    isplitr; · iexact Hlev
    isplitl [HT HL HR]
    · unfold Bufs
      isplitl [HT]; · iexact HT
      isplitl [HL]; · iexact HL
      iexact HR
    iexact HSt
  unfold Bufs
  iintro ⟨⟨HT, HL, HR⟩, HSt⟩
  iapply Hk
  isplitl [HT]; · iexact HT
  isplitl [Hx HL Hvx]
  · isplitl [Hx]; · iexact Hx
    isplitl [HL]; · iexact HL
    iexact Hvx
  isplitl [Hw HR Hvw]
  · rw [← e1]
    iapply (full_free m c b t.val)
    unfold FullW
    rw [e1]
    isplitl [Hw]; · iexact Hw
    isplitl [HR]; · iexact HR
    iexact Hvw
  iexact HSt

theorem nextStep (c : Dev nD) (n ℓ : ℕ) (Q : PUnit → sProp 𝕄) :
    wp frame (wpE 𝔻 𝕍 (c : Thread nD τ) (some (Sum.inr n))) Set.univ ((cf (F := F) c).iter (nD := nD) (τ := τ) (A := fun p => (pcfgs (F := F) p).Adm) (0 : Fin 1) (adm c) ℓ : PP F) (fun _ => Q ⟨⟩)
      ⊢ wp frame (wpE 𝔻 𝕍 (c : Thread nD τ) (some (Sum.inr (n + 1)))) Set.univ (opNext c ℓ) Q := by
  unfold opNext
  iintro H
  iapply (wp_call 𝕍 (c : Thread nD τ) (some (Sum.inr (n + 1))) Set.univ (Q := Q) (ℓ := Pipeline.pipe (A := fun p => (pcfgs (F := F) p).Adm) (0 : Fin 1)) (a := (adm c, ℓ)) (k := fun _ => .ret ⟨⟩) (Sum.inr n)
    (fun v hv => by cases hv; exact Sum.Lex.inr (Nat.lt_succ_self _)))
  iapply (wp_wand_r frame _ Set.univ)
  isplitl [H]; · iexact H
  iintro %_ H
  rw [wp_ret]
  imodintro
  iexact H

/-! ## The loop -/

/-- Before the copies of the block at `t` and those after it are waited for. -/
def Mid (c : Dev nD) (t : Fin grid0.N) : sProp 𝕄 :=
  iprop(TblPts c ∗ FreeO c ∗ FullX m c ∗ FlyW m c (sl t.val) t ∗ FreeW m c (sl (t.val + 1)) ∗ St m c t.val)
/-- When the loop is over. -/
def Over (c : Dev nD) : sProp 𝕄 :=
  iprop(TblPts c ∗ FullO m c ∗ FullX m c ∗ FreeW m c 0 ∗ FreeW m c 1 ∗ Rest c)

/-- All row blocks of the result are there. -/
theorem join_rows (c : Dev nD) : (Done m c) ⊢ iprop(((c : Thread nD τ).loc cc0_stg2_0 ↦{fullShare} OUT m c) ∗ Rest c) := by
  unfold Done Rest Got
  rw [out_split, over_src c, bigSep_Ico_succ_top (Nat.zero_le 15), bigSep_sep', src_last]
  iintro ⟨HO, Hb, Hs, ⟨Hr, Ha⟩, Hown⟩
  isplitl [Hr Hown]
  · isplitl [Hown] <;> iassumption
  isplitl [HO]; · iexact HO
  isplitl [Hb]; · iexact Hb
  isplitl [Hs]; · iexact Hs
  iexact Ha

theorem loop_last (K : GSem nD τ sig → ℕ) (c : Dev nD) (t : Fin grid0.N) (ht : t.val = 15) (Q : PUnit → sProp 𝕄) :
    iprop(records m K ∗ levAts L lv ∗ Mid m c t)
      ⊢ iprop((Over m c -∗ Q ⟨⟩)
        -∗ wp frame (wpE 𝔻 𝕍 (c : Thread nD τ) (some (Sum.inr 2))) Set.univ (opWait c 1 t (opBody c t (opPut c t (opNext c 17)))) Q) := by
  unfold Mid
  iintro ⟨#Hrec, #Hlev, HT, HF, HX, Hfly, Hfree, HSt⟩ Hk
  iapply (waitW m c (sl t.val) t rfl t.val _ _ Q) $$ [Hfly HSt]
  · isplitr; · iexact Hlev
    isplitl [Hfly]; · iexact Hfly
    iexact HSt
  iintro ⟨HW, HSt⟩
  iapply (bodyStep m K c (sl t.val) t rfl 2 _ Q) $$ [HT HX HW HSt]
  · isplitr; · iexact Hrec
    isplitr; · iexact Hlev
    isplitl [HT]; · iexact HT
    isplitl [HX]; · iexact HX
    isplitl [HW]; · iexact HW
    iexact HSt
  iintro ⟨HT, HX, HW, HSt⟩
  ihave HSt := (show St m c (t.val + 1) ⊢ Done m c from by unfold St; rw [if_neg (by omega), if_neg (by omega)]) $$ HSt
  ihave HSt := (join_rows m c) $$ HSt
  unfold Rest
  icases HSt with ⟨Ho, HO, HR⟩
  iapply (putO m c t _ _ Q) $$ [HF Ho HO]
  · isplitr; · iexact Hlev
    isplitl [HF]; · iexact HF
    isplitl [Ho]; · iexact Ho
    iexact HO
  iintro ⟨HF, HO⟩
  iapply (nextStep c 1 17 Q)
  rw [iter_end, wp_ret]
  imodintro
  iapply Hk
  unfold Over Rest
  isplitl [HT]; · iexact HT
  isplitl [HF]; · iexact HF
  isplitl [HX]; · iexact HX
  isplitl [Hfree]; · rw [show (0 : Fin 2) = sl (t.val + 1) from by rw [ht]; rfl]; iexact Hfree
  isplitl [HW]; · rw [show (1 : Fin 2) = sl t.val from by rw [ht]; rfl]; iexact HW
  isplitl [HO]; · iexact HO
  iexact HR

/-- From the wait for the block at `u` to the end. -/
theorem loop_from (K : GSem nD τ sig → ℕ) (c : Dev nD) (Q : PUnit → sProp 𝕄) : ∀ (n : ℕ) (u : Fin grid0.N) (_ : u.val + n = 15) (_ : 1 ≤ u.val),
    iprop(records m K ∗ levAts L lv ∗ Mid m c u)
      ⊢ iprop((Over m c -∗ Q ⟨⟩)
        -∗ wp frame (wpE 𝔻 𝕍 (c : Thread nD τ) (some (Sum.inr (n + 2)))) Set.univ ((cf (F := F) c).iter (nD := nD) (τ := τ) (A := fun p => (pcfgs (F := F) p).Adm) (0 : Fin 1) (adm c) (u.val + 1) : PP F) fun _ => Q ⟨⟩) := by
  intro n
  induction n with
  | zero =>
    intro u hu _
    have h15 : u = ⟨15, by rw [N_0]; decide⟩ := Fin.ext hu
    rw [show u.val + 1 = 16 by omega, iter_last, ← h15]
    exact loop_last m K c u hu fun _ => Q ⟨⟩
  | succ n ih =>
    intro u hu h1
    have h16 := N_0
    have hn : u.val + 1 < grid0.N := by omega
    rw [iter_mid c (u.val + 1) (by omega) hn (by omega)]
    unfold Mid
    iintro ⟨#Hrec, #Hlev, HT, HF, HX, Hfly, Hfree, HSt⟩ Hk
    iapply (fetchW m c (sl (u.val + 1)) ⟨u.val + 1, hn⟩ rfl _ _ fun _ => Q ⟨⟩) $$ Hfree
    iintro Hnext
    iapply (waitW m c (sl u.val) u rfl u.val _ _ fun _ => Q ⟨⟩) $$ [Hfly HSt]
    · isplitr; · iexact Hlev
      isplitl [Hfly]; · iexact Hfly
      iexact HSt
    iintro ⟨HW, HSt⟩
    iapply (bodyStep m K c (sl u.val) u rfl (n + 1 + 2) _ fun _ => Q ⟨⟩) $$ [HT HX HW HSt]
    · isplitr; · iexact Hrec
      isplitr; · iexact Hlev
      isplitl [HT]; · iexact HT
      isplitl [HX]; · iexact HX
      isplitl [HW]; · iexact HW
      iexact HSt
    iintro ⟨HT, HX, HW, HSt⟩
    iapply (nextStep c (n + 2) (u.val + 1 + 1) fun _ => Q ⟨⟩)
    iapply (ih ⟨u.val + 1, hn⟩ (show u.val + 1 + n = 15 by omega) (show 1 ≤ u.val + 1 by omega)) $$ [HT HF HX HW Hnext HSt]
    · unfold Mid
      isplitr; · iexact Hrec
      isplitr; · iexact Hlev
      isplitl [HT]; · iexact HT
      isplitl [HF]; · iexact HF
      isplitl [HX]; · iexact HX
      isplitl [Hnext]; · iexact Hnext
      isplitl [HW]
      · rw [show sl (u.val + 1 + 1) = sl u.val from Fin.ext (show (u.val + 1 + 1) % 2 = u.val % 2 by omega)]
        iexact HW
      iexact HSt
    iexact Hk

/-- The whole loop. -/
theorem loop_all (K : GSem nD τ sig → ℕ) (c : Dev nD) (Q : PUnit → sProp 𝕄) :
    iprop(records m K ∗ levAts L lv ∗ TblPts c ∗ FreeO c ∗ FreeX m c ∗ FreeW m c 0 ∗ FreeW m c 1 ∗ Start c)
      ⊢ iprop((Over m c -∗ Q ⟨⟩)
        -∗ wp frame (wpE 𝔻 𝕍 (c : Thread nD τ) (some (Sum.inr 18))) Set.univ ((cf (F := F) c).iter (nD := nD) (τ := τ) (A := fun p => (pcfgs (F := F) p).Adm) (0 : Fin 1) (adm c) 0 : PP F) fun _ => Q ⟨⟩) := by
  have p0 : 0 < grid0.N := by rw [N_0]; decide
  have p1 : 1 < grid0.N := by rw [N_0]; decide
  rw [iter_zero]
  iintro ⟨#Hrec, #Hlev, HT, HF, HX, HW0, HW1, HSt⟩ Hk
  iapply (fetchW m c 0 ⟨0, p0⟩ rfl _ _ fun _ => Q ⟨⟩) $$ HW0
  iintro Hfly
  iapply (nextStep c 17 1 fun _ => Q ⟨⟩)
  rw [iter_one]
  iapply (fetchX m c ⟨0, p0⟩ _ _ fun _ => Q ⟨⟩) $$ HX
  iintro HX
  iapply (fetchW m c 1 ⟨1, p1⟩ rfl _ _ fun _ => Q ⟨⟩) $$ HW1
  iintro Hnext
  ihave HSt := (show Start c ⊢ St m c 0 from by unfold St; rw [if_pos rfl]) $$ HSt
  iapply (waitX m c ⟨0, p0⟩ 0 _ _ fun _ => Q ⟨⟩) $$ [HX HSt]
  · isplitr; · iexact Hlev
    isplitl [HX]; · iexact HX
    iexact HSt
  iintro ⟨HX, HSt⟩
  iapply (waitW m c 0 ⟨0, p0⟩ rfl 0 _ _ fun _ => Q ⟨⟩) $$ [Hfly HSt]
  · isplitr; · iexact Hlev
    isplitl [Hfly]; · iexact Hfly
    iexact HSt
  iintro ⟨HW, HSt⟩
  iapply (bodyStep m K c 0 ⟨0, p0⟩ rfl 17 _ fun _ => Q ⟨⟩) $$ [HT HX HW HSt]
  · isplitr; · iexact Hrec
    isplitr; · iexact Hlev
    isplitl [HT]; · iexact HT
    isplitl [HX]; · iexact HX
    isplitl [HW]; · iexact HW
    iexact HSt
  iintro ⟨HT, HX, HW, HSt⟩
  iapply (nextStep c 16 2 fun _ => Q ⟨⟩)
  iapply (loop_from m K c Q 14 ⟨1, p1⟩ rfl (Nat.le_refl 1)) $$ [HT HF HX HW Hnext HSt]
  · unfold Mid
    isplitr; · iexact Hrec
    isplitr; · iexact Hlev
    isplitl [HT]; · iexact HT
    isplitl [HF]; · iexact HF
    isplitl [HX]; · iexact HX
    isplitl [Hnext]; · iexact Hnext
    isplitl [HW]
    · rw [show sl ((⟨1, p1⟩ : Fin grid0.N).val + 1) = (0 : Fin 2) from show sl 2 = 0 by decide]
      iexact HW
    iexact HSt
  iexact Hk

end Cert.KernelIdeal.Pf
-- ==== Proof.KernelIdeal.Cells.lean ====
/- The kernel region's own cells and buffers: what its entry opens and its exit closes. -/
module

public import proofs.«01_k».proof.Proof.KernelIdeal.Loop

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

/-! ## The semaphores in scope -/

def semEmb (c : Dev nD) : Fin 24 ↪ GSem nD τ sig := ⟨fun k => ((c : Thread nD τ), .dma k), fun _ _ h => SemLoc.dma.inj (Prod.mk.inj h).2⟩

theorem reg_unscoped (b : Sem sig) : (SemLoc.reg b : SemLoc sig).isScoped .tc = false := by revert b; decide
theorem dma_scoped (d : DmaSem sig) : (SemLoc.dma d : SemLoc sig).isScoped .tc = true := by revert d; decide

theorem scopedCells_eq (c : Dev nD) : scopedCells sig (c : Thread nD τ) = Finset.univ.map (semEmb c) := by
  ext g
  rw [mem_scopedCells, Finset.mem_map]
  constructor
  · rintro ⟨h1, h2, h3⟩
    obtain ⟨⟨d, p⟩, sm⟩ := g
    obtain rfl : d = c := h1
    cases p with
    | tc =>
      cases sm with
      | reg b => exact absurd ((reg_unscoped b).symm.trans h3) (by decide)
      | dma k => exact ⟨k, Finset.mem_univ _, rfl⟩
    | _ => exact absurd h2 (by simp [Proc.inScope])
  · rintro ⟨k, -, rfl⟩
    exact ⟨rfl, Proc.inScope_self Proc.tc, dma_scoped k⟩

/-- A device's semaphores in scope: the four of the staging copies, then the protocol's twenty. -/
theorem sems_eq (c : Dev nD) : (scopedSems0 (c : Thread nD τ) : sProp 𝕄)
    = iprop(semVal ((c : Thread nD τ), .dma cc0_sem0_0) 0 ∗ semVal ((c : Thread nD τ), .dma (sem0_1 0)) 0 ∗ semVal ((c : Thread nD τ), .dma (sem0_1 1)) 0 ∗ semVal ((c : Thread nD τ), .dma cc0_sem2_0) 0
      ∗ bigSep Finset.univ fun k : Fin 20 => semVal (dmaCell (c, k)) 0) := by
  unfold scopedSems0
  rw [scopedCells_eq, bigSep_map,
    bigSep_univ_eq_bigSepL ([0, 1, 2, 3, 4, 5, 6, 7, 8, 9, 10, 11, 12, 13, 14, 15, 16, 17, 18, 19, 20, 21, 22, 23] : List (Fin 24)) (by decide) (by decide),
    bigSep_univ_eq_bigSepL ([0, 1, 2, 3, 4, 5, 6, 7, 8, 9, 10, 11, 12, 13, 14, 15, 16, 17, 18, 19] : List (Fin 20)) (by decide) (by decide)]
  rfl

theorem sep_assoc4 (A B C D R : sProp 𝕄) : iprop((A ∗ B ∗ C ∗ D) ∗ R) = iprop(A ∗ B ∗ C ∗ D ∗ R) := by
  have h1 : iprop((A ∗ B ∗ C ∗ D) ∗ R) ⊢ iprop(A ∗ B ∗ C ∗ D ∗ R) := by
    iintro ⟨⟨HA, HB, HC, HD⟩, HR⟩
    isplitl [HA]; · iexact HA
    isplitl [HB]; · iexact HB
    isplitl [HC]; · iexact HC
    isplitl [HD] <;> iassumption
  have h2 : iprop(A ∗ B ∗ C ∗ D ∗ R) ⊢ iprop((A ∗ B ∗ C ∗ D) ∗ R) := by
    iintro ⟨HA, HB, HC, HD, HR⟩
    isplitr [HR]
    · isplitl [HA]; · iexact HA
      isplitl [HB]; · iexact HB
      isplitl [HC] <;> iassumption
    · iexact HR
  exact h1.antisymm h2

/-- The protocol's twenty cells of a device: four of sends, sixteen of receipts. -/
theorem own_eq (c : Dev nD) (Φ : GSem nD τ sig → sProp 𝕄) : (bigSep Finset.univ fun k : Fin 20 => Φ (dmaCell (c, k)))
    = iprop((bigSep (Finset.Ico 0 4) fun u => Φ (sendCell c u)) ∗ bigSep (Finset.Ico 0 16) fun t => Φ (recvCell c t)) := by
  rw [bigSep_eq_bigSepL_of_eq ([0, 1, 2, 3] : List ℕ) (by decide) (by decide),
    bigSep_eq_bigSepL_of_eq ([0, 1, 2, 3, 4, 5, 6, 7, 8, 9, 10, 11, 12, 13, 14, 15] : List ℕ) (by decide) (by decide),
    bigSep_univ_eq_bigSepL ([0, 1, 2, 3, 4, 5, 6, 7, 8, 9, 10, 11, 12, 13, 14, 15, 16, 17, 18, 19] : List (Fin 20)) (by decide) (by decide)]
  exact (sep_assoc4 _ _ _ _ _).symm

/-- The protocol's cells of a device opened. -/
theorem cells_open (K : GSem nD τ sig → ℕ) (c : Dev nD) :
    iprop(records m K ∗ (bigSep Finset.univ fun k : Fin 20 => openTok ER (dmaCell (c, k))) ∗ bigSep Finset.univ fun k : Fin 20 => semVal (dmaCell (c, k)) 0)
      ⊢ |={Set.univ}=> iprop((bigSep (Finset.Ico 0 4) fun u => iprop(atPos ER (sendCell c u) 0 ∅ 0 ∗ reached ER (sendCell c u) 0))
        ∗ (bigSep (Finset.Ico 0 16) fun t => atPos ER (recvCell c t) 0 ∅ 0) ∗ bigSep (Finset.Ico 0 16) fun t => reached ER (recvCell c t) 0) := by
  have h : ∀ k ∈ (Finset.univ : Finset (Fin 20)), iprop(records m K ∗ (openTok ER (dmaCell (c, k)) ∗ semVal (dmaCell (c, k)) 0))
      ⊢ |={Set.univ}=> iprop(atPos ER (dmaCell (c, k)) 0 ∅ 0 ∗ reached ER (dmaCell (c, k)) 0) := fun k _ => by
    iintro ⟨#Hrec, Ho, Hv⟩
    ihave Hi := (inv_dma m K (c, k)) $$ Hrec
    iapply (cell_open ER (rd m) (Set.mem_univ (K (dmaCell (c, k)))))
    isplitl [Hi]; · iexact Hi
    isplitl [Ho] <;> iassumption
  rw [← bigSep_sep', ← bigSep_sep', ← own_eq c fun g => iprop(atPos ER g 0 ∅ 0 ∗ reached ER g 0)]
  exact (bigSep_with_persistent h).trans (bigSep_fupd _ _)

theorem close_recv (K : GSem nD τ sig → ℕ) (c : Dev nD) (t : ℕ) :
    iprop(records m K ∗ atPos ER (recvCell c t) 1 ∅ 0) ⊢ |={Set.univ}=> (semVal (recvCell c t) 0 : sProp 𝕄) := by
  iintro ⟨#Hrec, Ha⟩
  ihave Hi := (inv_recv m K c t) $$ Hrec
  iapply (cell_close ER (rd m) (Set.mem_univ (K (recvCell c t))) id (duties_recv_later m c t))
  isplitl [Hi] <;> iassumption

theorem close_last (K : GSem nD τ sig → ℕ) (c : Dev nD) :
    iprop(records m K ∗ atPos ER (recvCell c 15) 0 ∅ 0) ⊢ |={Set.univ}=> (semVal (recvCell c 15) 0 : sProp 𝕄) := by
  iintro ⟨#Hrec, Ha⟩
  ihave Hi := (inv_recv m K c 15) $$ Hrec
  iapply (cell_close ER (rd m) (Set.mem_univ (K (recvCell c 15))) id (duties_recv_last m c))
  isplitl [Hi] <;> iassumption

theorem close_bar (K : GSem nD τ sig → ℕ) (c : Dev nD) :
    iprop(records m K ∗ atPos ER (barCell c) 1 ∅ 0) ⊢ |={Set.univ}=> (semVal (barCell c) 0 : sProp 𝕄) := by
  iintro ⟨#Hrec, Ha⟩
  ihave Hi := (inv_bar m K c) $$ Hrec
  iapply (cell_close ER (rd m) (Set.mem_univ (K (barCell c))) id (duties_bar_later m c))
  isplitl [Hi] <;> iassumption

/-- A slot taken back after the last send from it. -/
theorem close_slot (K : GSem nD τ sig → ℕ) (c : Dev nD) {u : ℕ} (h : 15 ≤ u) :
    iprop(records m K ∗ Slot c u) ⊢ |={Set.univ}=> iprop(semVal (sendCell c u) 0 ∗ ∃ f, slotPts c (s4 u) f) := by
  unfold Slot
  iintro ⟨#Hrec, Hf, Ha, -⟩
  ihave Hi := (inv_send m K c u) $$ Hrec
  imod (cell_close ER (rd m) (Set.mem_univ (K (sendCell c u))) id (duties_send_later m c h)) $$ [Hi Ha] with Hv
  · isplitl [Hi] <;> iassumption
  imodintro
  isplitl [Hv] <;> iassumption

/-- The four slots, whichever was used last. -/
theorem slots_turn (c : Dev nD) (Φ : GSem nD τ sig → sProp 𝕄) (Ψ : Fin 4 → sProp 𝕄) :
    (bigSep (Finset.Ico 15 19) fun u => iprop(Φ (sendCell c u) ∗ Ψ (s4 u)))
      ⊢ iprop((bigSep (Finset.Ico 0 4) fun u => Φ (sendCell c u)) ∗ bigSep Finset.univ Ψ) := by
  rw [four 15, four 0, bigSep_univ_eq_bigSepL ([0, 1, 2, 3] : List (Fin 4)) (by decide) (by decide)]
  show iprop((Φ (sendCell c 3) ∗ Ψ 3) ∗ (Φ (sendCell c 0) ∗ Ψ 0) ∗ (Φ (sendCell c 1) ∗ Ψ 1) ∗ Φ (sendCell c 2) ∗ Ψ 2)
    ⊢ iprop((Φ (sendCell c 0) ∗ Φ (sendCell c 1) ∗ Φ (sendCell c 2) ∗ Φ (sendCell c 3)) ∗ Ψ 0 ∗ Ψ 1 ∗ Ψ 2 ∗ Ψ 3)
  iintro ⟨⟨A3, B3⟩, ⟨A0, B0⟩, ⟨A1, B1⟩, A2, B2⟩
  isplitl [A0 A1 A2 A3]
  · isplitl [A0]; · iexact A0
    isplitl [A1]; · iexact A1
    isplitl [A2] <;> iassumption
  · isplitl [B0]; · iexact B0
    isplitl [B1]; · iexact B1
    isplitl [B2] <;> iassumption

/-- The protocol's cells of a device closed. -/
theorem cells_close (K : GSem nD τ sig → ℕ) (c : Dev nD) :
    iprop(records m K ∗ bigSep (Finset.Ico 15 19) (Slot c) ∗ (bigSep (Finset.Ico 0 15) fun t => atPos ER (recvCell c t) 1 ∅ 0) ∗ atPos ER (recvCell c 15) 0 ∅ 0 ∗ atPos ER (barCell c) 1 ∅ 0)
      ⊢ |={Set.univ}=> iprop((bigSep Finset.univ fun k : Fin 20 => semVal (dmaCell (c, k)) 0) ∗ semVal (barCell c) 0 ∗ bigSep Finset.univ fun k : Fin 4 => iprop(∃ f, slotPts c k f)) := by
  rw [own_eq c fun g => semVal g 0, bigSep_Ico_succ_top (show 0 ≤ 15 by decide)]
  have hs : iprop(records m K ∗ bigSep (Finset.Ico 15 19) (Slot c))
      ⊢ |={Set.univ}=> bigSep (Finset.Ico 15 19) fun u => iprop(semVal (sendCell c u) 0 ∗ ∃ f, slotPts c (s4 u) f) :=
    (bigSep_with_persistent fun u hu => close_slot m K c (Finset.mem_Ico.1 hu).1).trans (bigSep_fupd _ _)
  have hr : iprop(records m K ∗ bigSep (Finset.Ico 0 15) fun t => atPos ER (recvCell c t) 1 ∅ 0)
      ⊢ |={Set.univ}=> bigSep (Finset.Ico 0 15) fun t => semVal (recvCell c t) 0 :=
    (bigSep_with_persistent fun t _ => close_recv m K c t).trans (bigSep_fupd _ _)
  iintro ⟨#Hrec, Hs, Hr, Hl, Hb⟩
  imod (hs) $$ [Hs] with Hs
  · isplitl []
    · iexact Hrec
    · iexact Hs
  imod (hr) $$ [Hr] with Hr
  · isplitl []
    · iexact Hrec
    · iexact Hr
  imod (close_last m K c) $$ [Hl] with Hl
  · isplitl []
    · iexact Hrec
    · iexact Hl
  imod (close_bar m K c) $$ [Hb] with Hb
  · isplitl []
    · iexact Hrec
    · iexact Hb
  imodintro
  ihave ⟨Hs, Hf⟩ := (slots_turn c (fun g => semVal g 0) fun k => iprop(∃ f, slotPts c k f)) $$ Hs
  isplitl [Hs Hr Hl]
  · isplitl [Hs]; · iexact Hs
    isplitl [Hl] <;> iassumption
  isplitl [Hb] <;> iassumption

end Cert.KernelIdeal.Pf
-- ==== Proof.KernelIdeal.Region.lean ====
/- The kernel region: its entry, the loop, its exit. -/
module

public import proofs.«01_k».proof.Proof.KernelIdeal.Cells

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

/-! ## The buffers in scope -/

/-- A device's buffers in scope: the four staging buffers and the communication buffer. -/
theorem bufs_eq (c : Dev nD) : (scopedBufs (c : Thread nD τ) : sProp 𝕄)
    = iprop((∃ f, (c : Thread nD τ).loc cc0_stg0_0 ↦{fullShare} f) ∗ (∃ f, (c : Thread nD τ).loc cc0_stg1_0 ↦{fullShare} f) ∗ (∃ f, (c : Thread nD τ).loc cc0_stg1_1 ↦{fullShare} f)
      ∗ (∃ f, (c : Thread nD τ).loc cc0_stg2_0 ↦{fullShare} f) ∗ ∃ f, (c : Thread nD τ).loc cc0_scratch0 ↦{fullShare} f) := by
  rw [scopedBufs_tc, bigSep_eq_bigSepL_of_eq [cc0_stg0_0, cc0_stg1_0, cc0_stg1_1, cc0_stg2_0, cc0_scratch0] (by decide) (by decide)]
  rfl

/-! ## What the launch deals a device -/

def Dealt (K : GSem nD τ sig → ℕ) (c : Dev nD) : sProp 𝕄 :=
  iprop(records m K ∗ atPos ER (barCell c) 0 ∅ 0 ∗ cred (tallyAt (barCell c) () 16) ∗ (bigSep Finset.univ fun p : Dev nD => dutyTok ER (barCell p) 0 c)
    ∗ (bigSep Finset.univ fun p : Dev nD => reached ER (barCell p) 0) ∗ (bigSep Finset.univ fun k : Fin 20 => openTok ER (dmaCell (c, k))) ∗ bigSep (Finset.Ico 0 15) (Tok c)
    ∗ bigSep (Finset.Ico 0 15) fun t => cred (tallyAt (recvCell c t) () N))

/-- Before the kernel: the operands, the result's place, and what the launch dealt. -/
def Pre (c : Dev nD) : sProp 𝕄 :=
  iprop(TblPts c ∗ xPts m c ∗ wPts m c fullShare ∗ (∃ f, (c : Thread nD τ).loc main_v7 ↦{fullShare} f) ∗ (∃ W, owes (c : Thread nD τ) (O₀ c) W) ∗ ∃ K, Dealt m K c)

/-- After it: the operands, the result, and the barrier's counter. -/
def Post (c : Dev nD) : sProp 𝕄 :=
  iprop(xPts m c ∗ wPts m c fullShare ∗ ((c : Thread nD τ).loc main_v7 ↦{fullShare} RES m c) ∗ semVal (barCell c) 0 ∗ ∃ W, owes (c : Thread nD τ) 0 W)

/-! ## The entry -/

theorem bar_toks (c : Dev nD) (f : OutBuf F c) :
    iprop((bigSep (Finset.Ico 0 16) fun t => reached ER (recvCell c t) 0) ∗ (bigSep Finset.univ fun p : Dev nD => reached ER (barCell p) 0)
        ∗ (bigSep Finset.univ fun p : Dev nD => dutyTok ER (barCell p) 0 c) ∗ bigSep Finset.univ fun p => rowsPts c p f)
      ⊢ (bigSep Finset.univ (BarTok c) : sProp 𝕄) := by
  have h : ∀ p ∈ (Finset.univ : Finset (Dev nD)), iprop((bigSep (Finset.Ico 0 16) fun t => reached ER (recvCell c t) 0)
      ∗ (reached ER (barCell p) 0 ∗ dutyTok ER (barCell p) 0 c ∗ rowsPts c p f)) ⊢ (BarTok c p : sProp 𝕄) := fun p _ => by
    unfold BarTok
    iintro ⟨Hr, Hb, Hd, Hf⟩
    isplitl [Hd]; · iexact Hd
    isplitl [Hf]; · iexists f; iexact Hf
    isplitl [Hr]
    · iapply (show (bigSep (Finset.Ico 0 16) fun t => (reached ER (recvCell c t) 0 : sProp 𝕄)) ⊢ reached ER (recvCell c (turn p c)) 0
        from bigSep_elim (Finset.mem_Ico.2 ⟨Nat.zero_le _, turn_lt p c⟩)) $$ Hr
    · iexact Hb
  have e := bigSep_with_persistent h
  rw [bigSep_sep', bigSep_sep'] at e
  exact e

theorem lands (c : Dev nD) :
    iprop((bigSep (Finset.Ico 0 16) fun t => atPos ER (recvCell c t) 0 ∅ 0) ∗ bigSep (Finset.Ico 0 15) fun t => cred (tallyAt (recvCell c t) () N))
      ⊢ (iprop(bigSep (Finset.Ico 0 15) (Land c) ∗ atPos ER (recvCell c 15) 0 ∅ 0) : sProp 𝕄) := by
  rw [bigSep_Ico_succ_top (show 0 ≤ 15 by decide)]
  unfold Land
  rw [bigSep_sep']
  iintro ⟨⟨Hl, Ha⟩, Hc⟩
  isplitl [Ha Hc]
  · isplitl [Hc] <;> iassumption
  iexact Hl

theorem first_slots (c : Dev nD) (f : CommBuf F c) :
    iprop((bigSep (Finset.Ico 0 4) fun u => iprop(atPos ER (sendCell c u) 0 ∅ 0 ∗ reached ER (sendCell c u) 0)) ∗ bigSep Finset.univ fun k => slotPts c k f)
      ⊢ (bigSep (Finset.Ico 0 4) (Slot c) : sProp 𝕄) := by
  rw [bigSep_univ_eq_bigSepL ([0, 1, 2, 3] : List (Fin 4)) (by decide) (by decide),
    show bigSepL ([0, 1, 2, 3] : List (Fin 4)) (fun k => (slotPts c k f : sProp 𝕄)) = bigSep (Finset.Ico 0 4) fun u => slotPts c (s4 u) f from
      (four 0 fun u => (slotPts c (s4 u) f : sProp 𝕄)).symm,
    ← bigSep_sep']
  have h : ∀ u ∈ Finset.Ico 0 4, iprop((atPos ER (sendCell c u) 0 ∅ 0 ∗ reached ER (sendCell c u) 0) ∗ slotPts c (s4 u) f) ⊢ (Slot c u : sProp 𝕄) := fun u hu => by
    have h0 : u / 4 = 0 := Nat.div_eq_of_lt (Finset.mem_Ico.1 hu).2
    unfold Slot
    rw [h0]
    iintro ⟨⟨Ha, Hr⟩, Hf⟩
    isplitl [Hf]; · iexists f; iexact Hf
    isplitl [Ha] <;> iassumption
  exact bigSep_mono h

/-- The kernel's own state made from what it finds. -/
theorem enter (K : GSem nD τ sig → ℕ) (c : Dev nD) :
    iprop(scopedBufs (c : Thread nD τ) ∗ scopedSems0 (c : Thread nD τ) ∗ xPts m c ∗ wPts m c fullShare ∗ (∃ f, (c : Thread nD τ).loc main_v7 ↦{fullShare} f)
        ∗ (∃ W, owes (c : Thread nD τ) (O₀ c) W) ∗ Dealt m K c)
      ⊢ |={Set.univ}=> iprop(records m K ∗ FreeO c ∗ FreeX m c ∗ FreeW m c 0 ∗ FreeW m c 1 ∗ Start c ∗ atPos ER (recvCell c 15) 0 ∅ 0) := by
  rw [bufs_eq, sems_eq]
  unfold Dealt
  iintro ⟨⟨HB0, HB1, HB2, ⟨%fo, HB3⟩, ⟨%fc, HB4⟩⟩, ⟨HS0, HS1, HS2, HS3, HS⟩, Hx, Hw, Ho, HO, ⟨#Hrec, Hbat, Hbc, Hbd, Hbr, Hop, Htok, Hcr⟩⟩
  imod (cells_open m K c) $$ [Hop HS] with ⟨Hsd, Hra, Hrr⟩
  · isplitl []; · iexact Hrec
    isplitl [Hop] <;> iassumption
  imodintro
  isplitl []; · iexact Hrec
  isplitl [Ho HS3]
  · unfold FreeO; isplitl [Ho] <;> iassumption
  isplitl [Hx HB0 HS0]
  · unfold FreeX
    isplitl [Hx]; · iexact Hx
    isplitl [HB0] <;> iassumption
  ihave ⟨Hw0, Hw1⟩ := (wPts_halves m c).1 $$ Hw
  isplitl [Hw0 HB1 HS1]
  · unfold FreeW
    isplitl [Hw0]; · iexact Hw0
    isplitl [HB1]; · iexact HB1
    iexact HS1
  isplitl [Hw1 HB2 HS2]
  · unfold FreeW
    isplitl [Hw1]; · iexact Hw1
    isplitl [HB2]; · iexact HB2
    iexact HS2
  ihave HB3 := (Entails.of_eq (out_split c fo)) $$ HB3
  ihave HB4 := (Entails.of_eq (comm_split c fc)) $$ HB4
  ihave ⟨Hl, H15⟩ := (lands c) $$ [Hra Hcr]
  · isplitl [Hra] <;> iassumption
  isplitr [H15]
  · unfold Start
    isplitl [HO]; · iexact HO
    isplitl [Hbat Hbc Hbd Hbr Hrr HB3]
    · isplitl [Hbat]; · iexact Hbat
      isplitl [Hbc]; · iexact Hbc
      iapply (bar_toks c fo)
      isplitl [Hrr]; · iexact Hrr
      isplitl [Hbr]; · iexact Hbr
      isplitl [Hbd] <;> iassumption
    isplitl [Hsd HB4]
    · iapply (first_slots c fc)
      isplitl [Hsd] <;> iassumption
    isplitl [Htok] <;> iassumption
  · iexact H15

/-! ## The exit -/

theorem lo_pts (c : Dev nD) : LoM m (stage0_0 0) c ⊢ (iprop(∃ f, (c : Thread nD τ).loc cc0_stg0_0 ↦{fullShare} f) : sProp 𝕄) := by
  refine (Entails.of_eq (owns_whole (c : Thread nD τ) cc0_stg0_0 fullShare (m ((c : Thread nD τ).loc main_arg0)))).trans ?_
  iintro H
  iexists _
  iexact H

/-- What the kernel leaves, made from its own state. -/
theorem leave (K : GSem nD τ sig → ℕ) (c : Dev nD) :
    iprop(records m K ∗ Over m c ∗ atPos ER (recvCell c 15) 0 ∅ 0)
      ⊢ |={Set.univ}=> iprop(scopedSems0 (c : Thread nD τ) ∗ scopedBufs (c : Thread nD τ) ∗ Post m c) := by
  rw [bufs_eq, sems_eq]
  unfold Over FullO FullX FreeW Rest Post
  iintro ⟨#Hrec, ⟨-, ⟨Hv, HB3, HS3⟩, ⟨Hx, HB0, HS0⟩, ⟨Hw0, HB1, HS1⟩, ⟨Hw1, HB2, HS2⟩, ⟨HO, Hb, Hsl, Hra⟩⟩, H15⟩
  imod (cells_close m K c) $$ [Hb Hsl Hra H15] with ⟨HS, Hbv, Hf⟩
  · isplitl []; · iexact Hrec
    isplitl [Hsl]; · iexact Hsl
    isplitl [Hra]; · iexact Hra
    isplitl [H15] <;> iassumption
  imodintro
  isplitl [HS0 HS1 HS2 HS3 HS]
  · isplitl [HS0]; · iexact HS0
    isplitl [HS1]; · iexact HS1
    isplitl [HS2]; · iexact HS2
    isplitl [HS3] <;> iassumption
  isplitl [HB0 HB1 HB2 HB3 Hf]
  · isplitl [HB0]; · iapply (lo_pts m c); iexact HB0
    isplitl [HB1]; · iexact HB1
    isplitl [HB2]; · iexact HB2
    isplitl [HB3]; · iexact HB3
    iapply (comm_join c (fun _ => Classical.arbitrary _))
    iexact Hf
  isplitl [Hx]; · iexact Hx
  isplitl [Hw0 Hw1]
  · iapply (wPts_halves m c).2
    isplitl [Hw0] <;> iassumption
  isplitl [Hv]; · iexact Hv
  isplitl [Hbv] <;> iassumption

/-! ## The region -/

theorem pref_eq (c : Dev nD) : (Pipeline.prefHeld pre0 c (fun _ => fullShare) (pfv (F := F) c) : sProp 𝕄) = TblPts c := by
  unfold Pipeline.prefHeld
  rw [show (Finset.univ : Finset (Fin pre0.K)) = {(0 : Fin 1)} from rfl, bigSep_singleton]
  rfl

theorem run_eq (c : Dev nD) : ((Pipeline.Cfg.runAt (nD := nD) (τ := τ) (A := fun p => (pcfgs (F := F) p).Adm) (cf (F := F) c) (0 : Fin 1) (adm c)) : PP F) = opNext c 0 := by
  rfl

theorem region_run (c : Dev nD) {β : Type} (k : PUnit → Prog (TpuEff nD τ sig (Elt F) (Pipeline.Sig Λ₀ (Fin 1) fun p => (pcfgs (F := F) p).Adm) .tc) β) (Q : β → sProp 𝕄) :
    iprop((iprop(boundary (c : Thread nD τ) ∗ Post m c) -∗ wp frame (wpE 𝔻 𝕍 (c : Thread nD τ) none) Set.univ (k ⟨⟩) Q)
        ∗ boundary (c : Thread nD τ) ∗ Pre m c ∗ levAts L lv)
      ⊢ wp frame (wpE 𝔻 𝕍 (c : Thread nD τ) none) Set.univ (.op (.customCall (Pipeline.entry (0 : Fin 1)) ()) k) Q := by
  unfold boundary Pre
  iintro ⟨Hk, ⟨HB, HS, Hidle⟩, ⟨HT, Hx, Hw, Ho, HO, ⟨%K, HD⟩⟩, #Hlev⟩
  iapply (wp_customCall 𝕍 (c : Thread nD τ) none Set.univ (ℓ := Pipeline.entry (0 : Fin 1)) (a := ()) (k := k) (Q := Q) (Sum.inr 19 : (𝕍).V) (fun u h => nomatch h)) $$ HB
  iintro HB
  rw [Pipeline.defs_tc_entry]
  unfold Pipeline.prun
  ihave HT := (Entails.of_eq (pref_eq c).symm) $$ HT
  iapply (Pipeline.Prefetch.wp_readAll 𝕍 (some (Sum.inr 19 : (𝕍).V)) Set.univ pre0 c (fun _ => fullShare) (pfv (F := F) c) _) $$ HT
  iintro HT
  ihave HT := (Entails.of_eq (pref_eq c)) $$ HT
  iapply (wp_assume 𝕍 _ (some (Sum.inr 19 : (𝕍).V)) Set.univ (adm (F := F) c).2)
  iapply (wp_fupd frame (wpE 𝔻 𝕍 (c : Thread nD τ) (some (Sum.inr 19))) Set.univ (opNext c 0 : PP F) fun r => kernelExitSpec (c : Thread nD τ) fun _ => wp frame (wpE 𝔻 𝕍 (c : Thread nD τ) none) Set.univ (k r) Q)
  iapply (nextStep c 18 0)
  imod (enter m K c) $$ [HB HS Hx Hw Ho HO HD] with ⟨#Hrec, HFO, HFX, HF0, HF1, HSt, H15⟩
  · isplitl [HB]; · iexact HB
    isplitl [HS]; · iexact HS
    isplitl [Hx]; · iexact Hx
    isplitl [Hw]; · iexact Hw
    isplitl [Ho]; · iexact Ho
    isplitl [HO] <;> iassumption
  iapply (loop_all m K c fun r => iprop(|={Set.univ}=> kernelExitSpec (c : Thread nD τ) fun _ => wp frame (wpE 𝔻 𝕍 (c : Thread nD τ) none) Set.univ (k r) Q)) $$ [HT HFO HFX HF0 HF1 HSt]
  · isplitl []; · iexact Hrec
    isplitl []; · iexact Hlev
    isplitl [HT]; · iexact HT
    isplitl [HFO]; · iexact HFO
    isplitl [HFX]; · iexact HFX
    isplitl [HF0]; · iexact HF0
    isplitl [HF1] <;> iassumption
  iintro HOver
  imod (leave m K c) $$ [HOver H15] with ⟨HS, HB, HP⟩
  · isplitl []; · iexact Hrec
    isplitl [HOver] <;> iassumption
  rw [kernelExitSpec_apply]
  imodintro
  isplitl [HS]; · iexact HS
  iintro HS
  isplitl [HB]; · iexact HB
  iintro HB
  iapply Hk
  isplitr [HP]
  · isplitl [HB]; · iexact HB
    isplitl [HS] <;> iassumption
  · iexact HP

/-- The region as a segment of the program. -/
def region : Pipeline.HostSeg (nD := nD) (τ := τ) (Name := ℕ) (U := UU) (pcfgs (F := F)) (defs₀ (F := F)) 𝒱₀ L lv where
  prog := Prog.lift (.customCall (Pipeline.entry (0 : Fin 1)) ())
  pre := Pre m
  post := Post m
  run c _ k Q := region_run m c k Q

end Cert.KernelIdeal.Pf
-- ==== Proof.KernelIdeal.Deal.lean ====
/- What the launch deals the devices: cells, tokens and credit. -/
module

public import proofs.«01_k».proof.Proof.KernelIdeal.Region

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

theorem reg_ne_dma (b : Sem sig) (d : DmaSem sig) : (SemLoc.reg b : SemLoc sig) ≠ .dma d := nofun
theorem bar_ne (c : Dev nD) (g : Thread nD τ) (d : DmaSem sig) : barCell c ≠ (g, .dma d) := fun h => reg_ne_dma _ _ (congrArg Prod.snd h)

/-! ## Cells and tokens of the launch -/

def barEmb : Dev nD ↪ GSem nD τ sig := ⟨fun c => barCell c, fun _ _ h => congrArg (fun g : GSem nD τ sig => g.1.1) h⟩
def dmaEmb : Dev nD × Fin 20 ↪ GSem nD τ sig := ⟨dmaCell, fun x y h => by
  have h1 : x.1 = y.1 := congrArg (fun g : GSem nD τ sig => g.1.1) h
  have h2 : 4 + x.2.val = 4 + y.2.val := congrArg Fin.val (SemLoc.dma.inj (Prod.mk.inj h).2)
  exact Prod.ext h1 (Fin.ext (by omega))⟩

abbrev barCells : Finset (GSem nD τ sig) := Finset.univ.map barEmb
abbrev dmaCells : Finset (GSem nD τ sig) := Finset.univ.map dmaEmb

theorem disjoint_cells : Disjoint barCells dmaCells := by
  rw [Finset.disjoint_left]
  rintro g h₁ h₂
  obtain ⟨c, -, rfl⟩ := Finset.mem_map.mp h₁
  obtain ⟨x, -, h⟩ := Finset.mem_map.mp h₂
  exact bar_ne _ _ _ h.symm

abbrev TokTy : Type := GSem nD τ sig × ℕ × Fin 16
/-- `c`'s signal to `p`. -/
def barTok : Dev nD × Dev nD ↪ TokTy := ⟨fun x => (barCell x.2, 0, x.1), fun x y h =>
  Prod.ext (Prod.mk.inj (Prod.mk.inj h).2).2 (congrArg (fun t : TokTy => t.1.1.1) h)⟩
/-- The reading out of `c`'s send `t`. -/
def sendTok : Dev nD × Fin 15 ↪ TokTy := ⟨fun x => (sendCell x.1 x.2.val, x.2.val / 4, 0), fun x y h => by
  have h1 : x.1 = y.1 := congrArg (fun t : TokTy => t.1.1.1) h
  have h2 : (4 + x.2.val % 4) % 24 = (4 + y.2.val % 4) % 24 := congrArg Fin.val (SemLoc.dma.inj (Prod.mk.inj (Prod.mk.inj h).1).2)
  have h3 : x.2.val / 4 = y.2.val / 4 := congrArg (fun t : TokTy => t.2.1) h
  exact Prod.ext h1 (Fin.ext (by omega))⟩
/-- The landing of `c`'s send `t`. -/
def recvTok : Dev nD × Fin 15 ↪ TokTy := ⟨fun x => (recvCell (dst x.1 x.2.val) x.2.val, 0, 0), fun x y h => by
  have h1 : dst x.1 x.2.val = dst y.1 y.2.val := congrArg (fun t : TokTy => t.1.1.1) h
  have h2 : (8 + x.2.val % 16) % 24 = (8 + y.2.val % 16) % 24 := congrArg Fin.val (SemLoc.dma.inj (Prod.mk.inj (Prod.mk.inj h).1).2)
  have h3 : x.2 = y.2 := Fin.ext (by omega)
  refine Prod.ext ?_ h3
  rw [h3] at h1
  have e1 := src_dst x.1 ⟨y.2.val, by omega⟩
  have e2 := src_dst y.1 ⟨y.2.val, by omega⟩
  rw [← e1, ← e2]
  exact congrArg (fun d => src d y.2.val) h1⟩

abbrev barToks : Finset TokTy := Finset.univ.map barTok
abbrev sendToks : Finset TokTy := Finset.univ.map sendTok
abbrev recvToks : Finset TokTy := Finset.univ.map recvTok
abbrev allToks : Finset TokTy := barToks ∪ (sendToks ∪ recvToks)

theorem disjoint_sr : Disjoint sendToks recvToks := by
  rw [Finset.disjoint_left]
  rintro g h₁ h₂
  obtain ⟨x, -, rfl⟩ := Finset.mem_map.mp h₁
  obtain ⟨y, -, h⟩ := Finset.mem_map.mp h₂
  have h2 : (8 + y.2.val % 16) % 24 = (4 + x.2.val % 4) % 24 := congrArg Fin.val (SemLoc.dma.inj (Prod.mk.inj (Prod.mk.inj h).1).2)
  omega

theorem disjoint_b : Disjoint barToks (sendToks ∪ recvToks) := by
  rw [Finset.disjoint_left]
  rintro g h₁ h₂
  obtain ⟨x, -, rfl⟩ := Finset.mem_map.mp h₁
  rcases Finset.mem_union.mp h₂ with h₂ | h₂
  · obtain ⟨y, -, h⟩ := Finset.mem_map.mp h₂
    exact bar_ne _ _ _ (Prod.mk.inj h).1.symm
  · obtain ⟨y, -, h⟩ := Finset.mem_map.mp h₂
    exact bar_ne _ _ _ (Prod.mk.inj h).1.symm

theorem over15 (Φ : ℕ → sProp 𝕄) : (bigSep Finset.univ fun t : Fin 15 => Φ t.val) = bigSep (Finset.Ico 0 15) Φ := by
  rw [bigSep_univ_eq_bigSepL ([0, 1, 2, 3, 4, 5, 6, 7, 8, 9, 10, 11, 12, 13, 14] : List (Fin 15)) (by decide) (by decide),
    bigSep_eq_bigSepL_of_eq ([0, 1, 2, 3, 4, 5, 6, 7, 8, 9, 10, 11, 12, 13, 14] : List ℕ) (by decide) (by decide)]
  rfl

/-- The launch's tokens are each device's own: its signals, and its sends. -/
theorem toks_eq : (bigSep allToks fun x => (dutyTok ER x.1 x.2.1 x.2.2 : sProp 𝕄))
    = bigSep Finset.univ fun c : Dev nD => iprop((bigSep Finset.univ fun p : Dev nD => dutyTok ER (barCell p) 0 c) ∗ bigSep (Finset.Ico 0 15) (Tok c)) := by
  rw [bigSep_union disjoint_b, bigSep_union disjoint_sr, bigSep_map, bigSep_map, bigSep_map, bigSep_univ_prod, bigSep_univ_prod, bigSep_univ_prod]
  rw [bigSep_sep']
  refine congrArg₂ _ rfl ?_
  show iprop(_ ∗ _) = _
  rw [← bigSep_sep']
  refine bigSep_congr fun c _ => ?_
  unfold Tok
  rw [bigSep_sep']
  exact congrArg₂ _ (over15 fun t => dutyTok ER (sendCell c t) (t / 4) 0) (over15 fun t => dutyTok ER (recvCell (dst c t) t) 0 0)

/-! ## The launch credit -/

theorem owesRecv_bar (d c : Dev nD) : owesRecv d 0 (barCell c) () = 0 := by
  unfold owesRecv
  rw [Finset.sum_apply, Finsupp.finset_sum_apply]
  exact Finset.sum_eq_zero fun t _ => by rw [tallyAt_apply, if_neg fun h => bar_ne _ _ _ h.1]

theorem owed_bar (d c : Dev nD) : O₀ d (barCell c) () = 1 := by
  unfold O₀
  rw [Pi.add_apply, Finsupp.add_apply, owesRecv_bar, Nat.zero_add]
  unfold owesBar
  rw [Finset.sum_apply, Finsupp.finset_sum_apply, Finset.sum_eq_single c.val]
  · rw [tallyAt_apply, if_pos]
    exact ⟨congrArg barCell (Fin.ext (Nat.mod_eq_of_lt c.isLt).symm), rfl⟩
  · intro q hq hne
    rw [tallyAt_apply, if_neg]
    rintro ⟨h, -⟩
    have h1 : c.val = q % 16 := congrArg (fun g : GSem nD τ sig => g.1.1.val) h
    have := (Finset.mem_Ico.1 hq).2
    omega
  · intro h
    exact absurd (Finset.mem_Ico.2 ⟨Nat.zero_le _, c.isLt⟩) h

theorem owesBar_recv (c : Dev nD) (t : ℕ) : owesBar 0 (recvCell c t) () = 0 := by
  unfold owesBar
  rw [Finset.sum_apply, Finsupp.finset_sum_apply]
  exact Finset.sum_eq_zero fun q _ => by rw [tallyAt_apply, if_neg fun h => bar_ne _ _ _ h.1.symm]

theorem owed_recv (d c : Dev nD) (t : ℕ) (ht : t < 15) : O₀ d (recvCell c t) () = if d = src c t then N else 0 := by
  unfold O₀
  rw [Pi.add_apply, Finsupp.add_apply, owesBar_recv, Nat.add_zero]
  unfold owesRecv
  rw [Finset.sum_apply, Finsupp.finset_sum_apply, Finset.sum_eq_single t]
  · rw [tallyAt_apply]
    refine if_congr ⟨fun h => ?_, fun h => ?_⟩ rfl rfl
    · have h1 : c = dst d t := congrArg (fun g : GSem nD τ sig => g.1.1) h.1
      rw [h1]
      exact (src_dst d ⟨t, by omega⟩).symm
    · rw [h]
      exact ⟨congrArg (fun e => recvCell e t) (dst_src c ⟨t, by omega⟩).symm, rfl⟩
  · intro q hq hne
    rw [tallyAt_apply, if_neg]
    rintro ⟨h, -⟩
    have h1 : (8 + t % 16) % 24 = (8 + q % 16) % 24 := congrArg Fin.val (SemLoc.dma.inj (Prod.mk.inj h).2)
    have := (Finset.mem_Ico.1 hq).2
    omega
  · intro h
    exact absurd (Finset.mem_Ico.2 ⟨Nat.zero_le _, ht⟩) h

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_recv (c : Dev nD) (t : ℕ) (ht : t < 15) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t ht, Finset.sum_ite_eq' Finset.univ (src c t) fun _ => N,
    if_pos (Finset.mem_univ _)]

/-- The semaphores a device's receipts land on. -/
def recvSem (t : ℕ) : SemLoc sig := .dma (dsem (8 + t % 16))

theorem creds (c : Dev nD) :
    (Pipeline.launchCred O₀ c : sProp 𝕄) ⊢ iprop(cred (tallyAt (barCell c) () 16) ∗ bigSep (Finset.Ico 0 15) fun t => cred (tallyAt (recvCell c t) () N)) := by
  unfold Pipeline.launchCred
  rw [bigSep_univ_at _ (SemLoc.reg barrier0), launch_bar]
  refine sep_mono_right ?_
  have hinj : Set.InjOn recvSem (Finset.Ico 0 15 : Finset ℕ) := fun a ha b hb h => by
    have h1 : (8 + a % 16) % 24 = (8 + b % 16) % 24 := congrArg Fin.val (SemLoc.dma.inj h)
    have := (Finset.mem_Ico.1 (Finset.mem_coe.1 ha)).2
    have := (Finset.mem_Ico.1 (Finset.mem_coe.1 hb)).2
    omega
  have hsub : (Finset.Ico 0 15).image recvSem ⊆ Finset.univ.erase (SemLoc.reg barrier0) := fun x hx => by
    obtain ⟨t, -, rfl⟩ := Finset.mem_image.1 hx
    exact Finset.mem_erase.2 ⟨fun h => reg_ne_dma _ _ h.symm, Finset.mem_univ _⟩
  refine (bigSep_subset hsub).trans ?_
  rw [bigSep_image_of_injOn hinj]
  exact Entails.of_eq (bigSep_congr fun t ht => congrArg cred (launch_recv c t (Finset.mem_Ico.1 ht).2))

end Cert.KernelIdeal.Pf
-- ==== Proof.KernelIdeal.Run.lean ====
/- The launch and the run: what every execution of the program ends in. -/
module

public import proofs.«01_k».proof.Proof.KernelIdeal.Deal

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "𝔻" => Pipeline.defs (pcfgs (F := F)) (defs₀ (F := F))
local notation "𝕍" => Variants.lift 𝒱₀

variable (m : (ℓ : Loc nD τ sig) → Buf (Elt F) ℓ)

variable (ρ : Dev nD → PrngReg)

/-! ## The program's segments -/

abbrev a₀ : (p : Fin 1) → (pcfgs (F := F) p).Adm := fun _ => adm 0

/-- The staging copies' own library plays no part: its data is whatever it may be. -/
def dats (p : Fin 1) (c : Dev nD) : Pipeline.Dat τ (Elt F) Unit ℕ UU ℕ (Pipeline.pin (pcfgs (F := F)) a₀ p) c where
  A w := m (((Pipeline.pin (pcfgs (F := F)) a₀ p).win w).arr.view.loc (c : Thread nD τ))
  after := fun _ _ _ => Classical.arbitrary _
  Φ := fun _ => BI.emp
  q := fun _ => fullShare
  owed := fun _ => 0

/-- What rides beside the buffers up to the kernel. -/
def Ride (c : Dev nD) : sProp 𝕄 := iprop((∃ W, owes (c : Thread nD τ) (O₀ c) W) ∗ ∃ K, Dealt m K c)

def segs (c : Dev nD) : List (Pipeline.Seg (pcfgs (F := F)) a₀ (dats m) () (defs₀ (F := F)) 𝒱₀ L lv) :=
  [.host (seg0 m 𝒱₀ L lv (fun _ => Ride m) c), .host (region m)]

/-- The launch's buffers a device's kernel works on, out of all it holds. -/
theorem held_pick (c : Dev nD) : (StableHlo.held (c : Thread nD τ) (Pipeline.ucRefs τ sig) (V1 m c) : sProp 𝕄)
    ⊢ iprop(TblPts c ∗ xPts m c ∗ wPts m c fullShare ∗ ∃ f, (c : Thread nD τ).loc main_v7 ↦{fullShare} f) := by
  rw [← Pipeline.unscopedBufs_held (Ix := Unit) (Name := ℕ) (U := UU) (Lvl := ℕ) c (V1 m c)]
  unfold unscopedBufs
  rw [bigSep_eq_bigSepL_of_eq [main_v6, main_arg0, main_arg1, main_v7, main_c, main_c_0, main_c_1, main_v1, main_v2, main_v3, main_v4, main_v5] (by decide) (by decide)]
  show iprop(((c : Thread nD τ).loc main_v6 ↦{fullShare} V1 m c main_v6) ∗ ((c : Thread nD τ).loc main_arg0 ↦{fullShare} V1 m c main_arg0)
    ∗ ((c : Thread nD τ).loc main_arg1 ↦{fullShare} V1 m c main_arg1) ∗ ((c : Thread nD τ).loc main_v7 ↦{fullShare} V1 m c main_v7) ∗ _) ⊢ _
  have h6 : V1 m c main_v6 = tbl c := V1_tbl m c
  have h0 : V1 m c main_arg0 = m ((c : Thread nD τ).loc main_arg0) := V1_of m c main_arg0 (by decide)
  have h1 : V1 m c main_arg1 = m ((c : Thread nD τ).loc main_arg1) := V1_of m c main_arg1 (by decide)
  unfold TblPts xPts wPts
  rw [← h6, ← h0, ← h1]
  iintro ⟨H6, H0, H1, H7, -⟩
  isplitl [H6]; · iexact H6
  isplitl [H0]; · iexact H0
  isplitl [H1]; · iexact H1
  iexists _
  iexact H7

theorem region_pre (c : Dev nD) : iprop(StableHlo.held (c : Thread nD τ) (Pipeline.ucRefs τ sig) (V1 m c) ∗ Ride m c) ⊢ Pre m c := by
  unfold Ride Pre
  iintro ⟨Hh, HO, HD⟩
  ihave ⟨H6, H0, H1, H7⟩ := (held_pick m c) $$ Hh
  isplitl [H6]; · iexact H6
  isplitl [H0]; · iexact H0
  isplitl [H1]; · iexact H1
  isplitl [H7]; · iexact H7
  isplitl [HO] <;> iassumption

/-- What a device holds at the end. -/
def Tₙ (c : Dev nD) : sProp 𝕄 :=
  iprop(xPts m c ∗ wPts m c fullShare ∗ ((c : Thread nD τ).loc main_v7 ↦{fullShare} RES m c) ∗ semVal (barCell c) 0)

theorem region_post (c : Dev nD) : Post m c ⊢ iprop(Tₙ m c ∗ ∃ W, owes (c : Thread nD τ) (0 : CellTallies nD τ sig Unit) W) := by
  unfold Post Tₙ
  iintro ⟨H0, H1, H7, Hb, HO⟩
  isplitr [HO]
  · isplitl [H0]; · iexact H0
    isplitl [H1]; · iexact H1
    isplitl [H7] <;> iassumption
  · iexact HO

/-! ## The launch -/

/-- The launch element: the staging library's, and the protocol's. -/
def u₀ : UU :=
  (initOf (Pipeline.cells (Pipeline.pin (pcfgs (F := F)) a₀) (cellOf_inj a₀)) (Pipeline.launchToks (Pipeline.pin (pcfgs (F := F)) a₀) (cellOf_inj a₀)),
    (launchOf barCells dmaCells allToks, 1))

/-- All of a resource given to device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells dmaCells allToks)))

theorem bigSep_both (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What every device may consult: all the invariants, and that every barrier is open. -/
def common (K : GSem nD τ sig → ℕ) : sProp 𝕄 := iprop(records m K ∗ bigSep Finset.univ fun p : Dev nD => reached ER (barCell p) 0)
instance common_persistent (K : GSem nD τ sig → ℕ) : BI.Persistent (common m K) := by unfold common; infer_instance

/-- What is dealt to one device alone. -/
def own1 (c : Dev nD) : sProp 𝕄 :=
  iprop(atPos ER (barCell c) 0 ∅ 0 ∗ (bigSep Finset.univ fun k : Fin 20 => openTok ER (dmaCell (c, k)))
    ∗ ((bigSep Finset.univ fun p : Dev nD => dutyTok ER (barCell p) 0 c) ∗ bigSep (Finset.Ico 0 15) (Tok c)))

/-- What a device has of the launch besides. -/
def bundle (c : Dev nD) : sProp 𝕄 :=
  iprop(StableHlo.held (c : Thread nD τ) (Pipeline.ucRefs τ sig) (V0 m c) ∗ cred (tallyAt (barCell c) () 16) ∗ (bigSep (Finset.Ico 0 15) fun t => cred (tallyAt (recvCell c t) () N))
    ∗ owes (c : Thread nD τ) (O₀ c) ∅)

abbrev T₀ (c : Dev nD) : sProp 𝕄 := iprop(StableHlo.held (c : Thread nD τ) (Pipeline.ucRefs τ sig) (V0 m c) ∗ Ride m c)

theorem T₀_intro (K : GSem nD τ sig → ℕ) (c : Dev nD) : iprop(common m K ∗ (own1 c ∗ bundle m c)) ⊢ T₀ m c := by
  unfold bundle T₀ Ride common own1 Dealt
  iintro ⟨⟨#HR, #Hb⟩, ⟨Hat, Hop, Htb, Htk⟩, Hh, H1, HN, HO⟩
  isplitl [Hh]; · iexact Hh
  isplitl [HO]; · iexists ∅; iexact HO
  iexists K
  isplitl []; · iexact HR
  isplitl [Hat]; · iexact Hat
  isplitl [H1]; · iexact H1
  isplitl [Htb]; · iexact Htb
  isplitl []; · iexact Hb
  isplitl [Hop]; · iexact Hop
  isplitl [Htk] <;> iassumption

theorem records_intro (K : GSem nD τ sig → ℕ) : (bigSep (barCells ∪ dmaCells) fun g => (cellInv ER (rd m) (K g) g : sProp 𝕄)) ⊢ records m K := by
  rw [bigSep_union disjoint_cells, bigSep_map, bigSep_map]
  exact .rfl

/-- A device's share of the launch, sorted into what it keeps and what goes to fund the cells. -/
theorem share_in (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c),
    unscopedSems0_eq]
  unfold bundle
  iintro ⟨Hh, Hus, HO, Hcr, -, HG⟩
  ihave ⟨H1, HN⟩ := (creds (F := F) c) $$ Hcr
  isplitl [Hh H1 HN HO]
  · isplitl [Hh]; · iexact Hh
    isplitl [H1]; · iexact H1
    isplitl [HN] <;> iassumption
  isplitl [Hus] <;> iassumption

theorem bars_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm

theorem bars_at : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))

theorem bars_reached : bigSep barCells (fun g => (reached ER g 0 : sProp 𝕄)) ⊢ bigSep Finset.univ (fun c : Dev nD => (reached ER (barCell c) 0 : sProp 𝕄)) :=
  Entails.of_eq (bigSep_map (s := Finset.univ) barEmb (Φ := fun g : GSem nD τ sig => (reached ER g 0 : sProp 𝕄)))

theorem dmas_open : bigSep dmaCells (fun g => (openTok ER g : sProp 𝕄))
    ⊢ bigSep Finset.univ (fun c : Dev nD => bigSep Finset.univ fun k : Fin 20 => (openTok ER (dmaCell (c, k)) : sProp 𝕄)) :=
  Entails.of_eq (by rw [bigSep_map, bigSep_univ_prod]; rfl)

/-- Every cell of the protocol pays in units. -/
theorem all_units (g : GSem nD τ sig) : ¬ (rd (F := F) m).unitless g := fun h => h

/-- The cells are set up from their counters and the protocol's part of the launch element, whichever sets of cells and tokens they are. -/
theorem set_up (S Sd : Finset (GSem nD τ sig)) (T : Finset TokTy) (hSd : Disjoint S Sd) (hu : ∀ g ∈ Sd, ¬ (rd m).unitless g) :
    iprop(bigSep S (fun g => (semVal g 0 : sProp 𝕄)) ∗ BI.own (ER (launchOf S Sd T)))
      ⊢ iprop(|={Set.univ}=> ∃ K : GSem nD τ sig → ℕ, bigSep (S ∪ Sd) (fun g => (cellInv ER (rd m) (K g) g : sProp 𝕄)) ∗ bigSep S (fun g => reached ER g 0)
          ∗ bigSep S (fun g => atPos ER g 0 ∅ 0) ∗ bigSep Sd (fun g => openTok ER g) ∗ bigSep T (fun x => dutyTok ER x.1 x.2.1 x.2.2)) := by
  iintro ⟨Hv, Hu⟩
  imod (Rounds.fund_launch ER (rd m) hSd hu T) $$ [Hv Hu] with ⟨%K, -, Hinv, Hr, Hat, Hopen, Htok⟩
  · isplitl [Hv] <;> iassumption
  imodintro
  iexists K
  isplitl [Hinv]; · iexact Hinv
  isplitl [Hr]; · iexact Hr
  isplitl [Hat]; · iexact Hat
  isplitl [Hopen] <;> iassumption

/-- Out of what the launch gives, the invariants are set up and every device gets its part: for any sets of cells and tokens that are shared out as the
protocol's are. -/
theorem init_of (S Sd : Finset (GSem nD τ sig)) (T : Finset TokTy) (hSd : Disjoint S Sd)
    (hG : bigSep Finset.univ (G (F := F)) ⊢ BI.own (ER (launchOf S Sd T)))
    (hv : bigSep Finset.univ (fun c : Dev nD => (semVal (barCell c) 0 : sProp 𝕄)) ⊢ bigSep S (fun g => (semVal g 0 : sProp 𝕄)))
    (hrec : ∀ K : GSem nD τ sig → ℕ, (bigSep (S ∪ Sd) fun g => (cellInv ER (rd m) (K g) g : sProp 𝕄)) ⊢ records m K)
    (hr : bigSep S (fun g => (reached ER g 0 : sProp 𝕄)) ⊢ bigSep Finset.univ (fun c : Dev nD => (reached ER (barCell c) 0 : sProp 𝕄)))
    (hat : bigSep S (fun g => (atPos ER g 0 ∅ 0 : sProp 𝕄)) ⊢ bigSep Finset.univ (fun c : Dev nD => (atPos ER (barCell c) 0 ∅ 0 : sProp 𝕄)))
    (hopen : bigSep Sd (fun g => (openTok ER g : sProp 𝕄))
      ⊢ bigSep Finset.univ (fun c : Dev nD => bigSep Finset.univ fun k : Fin 20 => (openTok ER (dmaCell (c, k)) : sProp 𝕄)))
    (htok : (bigSep T fun x => (dutyTok ER x.1 x.2.1 x.2.2 : sProp 𝕄))
      ⊢ bigSep Finset.univ fun c : Dev nD => iprop((bigSep Finset.univ fun p : Dev nD => dutyTok ER (barCell p) 0 c) ∗ bigSep (Finset.Ico 0 15) (Tok c))) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => share_in m ρ c) $$ H
  ihave H2 := (Entails.of_eq (bigSep_sep' Finset.univ (fun c => bundle m c) fun c => iprop(semVal (barCell c) 0 ∗ G c))) $$ H'; icases H2 with ⟨HB, H3⟩
  ihave H4 := (Entails.of_eq (bigSep_sep' Finset.univ (fun c => (semVal (barCell c) 0 : sProp 𝕄)) fun c => G c)) $$ H3; icases H4 with ⟨Hv, HG⟩
  ihave Hu := hG $$ HG
  imod (set_up m S Sd T hSd fun g _ => all_units m g) $$ [Hv Hu] with ⟨%K, #Hinv, #Hr, Hat, Hopen, Htok⟩
  · isplitl [Hv]
    · iapply hv $$ Hv
    · iexact Hu
  imodintro
  iapply (bigSep_with_persistent (R := common m K) (Φ := fun c => iprop(own1 c ∗ bundle m c)) fun c _ => T₀_intro m K c)
  isplitl []
  · unfold common
    isplitl []
    · iapply (hrec K); iexact Hinv
    · iapply hr; iexact Hr
  iapply (bigSep_both (fun c => own1 c) fun c => bundle m c)
  isplitr [HB]
  · unfold own1
    iapply (bigSep_both (fun c : Dev nD => atPos ER (barCell c) 0 ∅ 0) _); isplitl [Hat]; · iapply hat $$ Hat
    iapply (bigSep_both (fun c : Dev nD => bigSep Finset.univ fun k : Fin 20 => openTok ER (dmaCell (c, k))) _); isplitl [Hopen]; · iapply hopen $$ Hopen
    iapply htok $$ Htok
  · iexact HB

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) :=
  init_of m ρ barCells dmaCells allToks disjoint_cells (Entails.of_eq (bigSep_onDev _)) bars_vals (records_intro m) bars_reached bars_at dmas_open
    (Entails.of_eq toks_eq)

theorem unscoped_eq : ∀ sm : SemLoc sig, sm.isScoped .tc = false → sm = .reg barrier0 := by decide

set_option backward.isDefEq.respectTransparency.types false in
/-- Every execution from zero counters ends; at the end each device's result is the sixteen blocks computed for it, the operands are as launched, and
    every counter is at zero. -/
theorem run_main : θ_run defs (onTc (τ := τ) (main (F := F))) ⟨m, fun _ => 0, ρ⟩
    (fun r => (∀ c : Dev nD, r.2.mem ((c.tc : Thread nD τ).loc main_v7) = RES m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) a₀ (dats m) () (cellOf_inj a₀) EP defs₀ 𝒱₀ L lv m ρ main (segs m)
    (fun c Q => by
      rewrite [main_chain c, Pipeline.Seg.run_eq_chain,
        show (segs m c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, region_pre m c, region_post m c⟩)
    (hinit := init m ρ)
    (QY := fun c s => (s.mem ((c.tc : Thread nD τ).loc main_v7) = RES m c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (hfin := fun c s' => by
      unfold Tₙ
      iintro ⟨⟨H0, H1, H7, Hb0⟩, HSI⟩
      icombine HSI H0 gives %h0
      icombine HSI H1 gives %h1
      icombine HSI H7 gives %h7
      icombine HSI Hb0 gives %hb
      imodintro
      isplitr
      · ipureintro
        exact ⟨⟨Buf.eq_of_forall_mem_univ h7, Buf.eq_of_forall_mem_univ h0, Buf.eq_of_forall_mem_univ h1⟩, by simpa using hb⟩
      iexact HSI)
    (hQ := fun s h hs => ⟨fun c => (h c).1,
      sem_eq_zero hs fun c sm hsm => by
        obtain rfl := unscoped_eq sm hsm
        exact (h c).2⟩)

end Cert.KernelIdeal.Pf
-- ==== Proof.Value.lean ====
/-
  The mathematics of the result, over the extended reals: under the precondition, what the kernel leaves on each device is that device's block of the
  reference's result, entry by entry.
-/
module

public import proofs.«01_k».proof.Pre_within_clip_KernelIdeal
public import proofs.«01_k».proof.Proof.KernelIdeal.Proto
public import proofs.«01_k».proof.Proof.Gen.ReferenceIdeal.Run
public import Idealize.ShloMosaic.Lib.StackMember
public import Idealize.ShloMosaic.Lib.MatmulPlain
public import Idealize.ShloMosaic.Lib.IdealHost

@[expose] public section

noncomputable section

namespace Cert.Value

open Idealize.ShloMosaic Idealize.ShloMosaic.TcCoe

/-! ## One entry -/

/-- The pattern of the clipping bound is sixty, and its negative minus sixty. -/
theorem ofBits_sixty : Ideal.ofBits .f32 0x42700000#32 = ((60 : ℝ) : EReal) := by
  simp [Ideal.ofBits, Ideal.ieee]; rw [← EReal.coe_mul]; norm_num
theorem ofBits_neg_sixty : Ideal.ofBits .f32 0xC2700000#32 = ((-60 : ℝ) : EReal) := by
  simp [Ideal.ofBits, Ideal.ieee]; rw [← EReal.coe_mul]; norm_num

/-- Within sixty of zero the clip does nothing, and `y` times its logistic is `y` over one plus the exponential of its negative. -/
theorem entry (y : EReal) (h : max y (-y) ≤ ((60 : ℝ) : EReal)) :
    y * Ideal.logistic y = Ideal.div y (1 + Ideal.exp (-(min ((60 : ℝ) : EReal) (max ((-60 : ℝ) : EReal) y)))) := by
  have h1 : y ≤ ((60 : ℝ) : EReal) := (le_max_left _ _).trans h
  have h2 : ((-60 : ℝ) : EReal) ≤ y := by
    have := (le_max_right y (-y)).trans h
    rw [EReal.coe_neg]
    exact EReal.neg_le_of_neg_le this
  rw [max_eq_right h2, min_eq_right h1]
  induction y with
  | bot => exact absurd h2 (by simp)
  | top => exact absurd h1 (by simp)
  | coe r =>
    have hp : (1 + Real.exp (-r) : ℝ) ≠ 0 := by positivity
    rw [Ideal.logistic_coe, ← EReal.coe_neg, Ideal.exp_coe]
    have : (1 : EReal) + ((Real.exp (-r) : ℝ) : EReal) = ((1 + Real.exp (-r) : ℝ) : EReal) := by rw [EReal.coe_add]; rfl
    rw [this, Ideal.div_coe hp, one_div]

/-! ## The precondition, read at an entry -/

theorem and_one : ∀ a b : BitVec 1, IntOp.andi a b = 1#1 → a = 1#1 ∧ b = 1#1 := by decide

/-- A conjunction folded over a list is one only where every term is. -/
theorem foldl_and {ι : Type} (f : ι → BitVec 1) : ∀ (l : List ι) (a : BitVec 1),
    l.foldl (fun r n => IntOp.andi r (f n)) a = 1#1 → a = 1#1 ∧ ∀ n ∈ l, f n = 1#1
  | [], a, h => ⟨h, fun _ hn => absurd hn List.not_mem_nil⟩
  | n :: l, a, h => by
    obtain ⟨h1, h2⟩ := foldl_and f l _ h
    have h3 : a = 1#1 ∧ f n = 1#1 := and_one _ _ h1
    refine ⟨h3.1, fun k hk => ?_⟩
    rcases List.mem_cons.mp hk with rfl | hk
    · exact h3.2
    · exact h2 k hk

/-- A conjunction reduced over a whole array is one only where every element is. -/
theorem reduce_and {s t u : Shape} {axes : List (Fin s.rank)} (x : IVec s 1) (v : IVec u 1) (h : s.ReducesTo axes t) (hu : 0 < u.numel) (j : t.Idx)
    (hj : ∀ i, h.drop i = j) (e : Host.reduce IntOp.andi x v h hu j = 1#1) (i : s.Idx) : x i = 1#1 := by
  have := (foldl_and _ _ _ e).2 (s.rowMajor i) (List.mem_filter.mpr ⟨List.mem_finRange _, by simp [hj]⟩)
  simpa using this

/-! ## The two products -/

/-- Entry `(r, c)` of a matrix product of 4096 terms. -/
def dot {M N : ℕ} (x : FVec Ideal ⟨2, ![M, 4096]⟩ .f32) (w : FVec Ideal ⟨2, ![4096, N]⟩ .f32) (r : Fin M) (c : Fin N) : EReal :=
  ∑ k : Fin 4096, x (ValueIdx.ix2 r k) * w (ValueIdx.ix2 k c)

open Cert.KernelIdeal in
/-- A block the kernel computes, at an entry. -/
theorem pay_at (x : FVec Ideal S256x4096 .f32) (w : FVec Ideal S4096x512 .f32) (r : Fin 256) (c : Fin 512) :
    Gen.k0_pay1 (F := Ideal) x w (ValueIdx.ix2 r c) = dot x w r c * Ideal.logistic (dot x w r c) := by
  have hd : dot_S256x4096_S4096x512_S256x512_1_0_0_1_n_n = DotDims.plain 256 4096 512 := rfl
  have hm : matmul dot_S256x4096_S4096x512_S256x512_1_0_0_1_n_n none x w (constant S256x512 .f32 0x00000000#32) (ValueIdx.ix2 r c) = dot x w r c := by
    rw [hd]
    show FloatOps.matmul (DotDims.plain 256 4096 512) none x w _ (ValueIdx.ix2 r c) = _
    rw [Ideal.matmul_plain_apply]
    show Ideal.ofBits .f32 0x00000000#32 + _ = _
    rw [Ideal.ofBits_zero_f32, zero_add]; rfl
  unfold Gen.k0_pay1
  rw [shapeCast_self, shapeCast_self]
  show matmul dot_S256x4096_S4096x512_S256x512_1_0_0_1_n_n none x w (constant S256x512 .f32 0x00000000#32) (ValueIdx.ix2 r c)
    * Ideal.logistic (matmul dot_S256x4096_S4096x512_S256x512_1_0_0_1_n_n none x w (constant S256x512 .f32 0x00000000#32) (ValueIdx.ix2 r c)) = _
  rw [hm]

open Cert.ReferenceIdeal Cert.ReferenceIdeal.Gen in
/-- The reference's result, as its operations compose. -/
def refOut (x : FVec Ideal S4096x4096 .f32) (w : FVec Ideal S4096x8192 .f32) : FVec Ideal S4096x8192 .f32 :=
  Host.divf (Host.dotGeneral dot_S4096x4096_S4096x8192_S4096x8192_1_0_0_1_n_n none x w) (addf (broadcastInDim S4096x8192 ![] bcast_S_S4096x8192 (constant S_ .f32 0x3F800000#32)) (Host.exp (Host.negf (minimumf (broadcastInDim S4096x8192 ![] bcast_S_S4096x8192 (id (constant S_ .f32 0x42700000#32))) (maximumf (broadcastInDim S4096x8192 ![] bcast_S_S4096x8192 (id (constant S_ .f32 0xC2700000#32))) (Host.dotGeneral dot_S4096x4096_S4096x8192_S4096x8192_1_0_0_1_n_n none x w))))))

open Cert.ReferenceIdeal Cert.ReferenceIdeal.Gen in
/-- The reference's result at an entry. -/
theorem refOut_at (x : FVec Ideal S4096x4096 .f32) (w : FVec Ideal S4096x8192 .f32) (r : Fin 4096) (c : Fin 8192) :
    refOut x w (ValueIdx.ix2 r c)
      = Ideal.div (dot x w r c) (1 + Ideal.exp (-(min ((60 : ℝ) : EReal) (max ((-60 : ℝ) : EReal) (dot x w r c))))) := by
  have hd : dot_S4096x4096_S4096x8192_S4096x8192_1_0_0_1_n_n = DotDims.plain 4096 4096 8192 := rfl
  have hm : Host.dotGeneral dot_S4096x4096_S4096x8192_S4096x8192_1_0_0_1_n_n none x w (ValueIdx.ix2 r c) = dot x w r c := by
    rw [hd]; exact StackMember.dotGeneral_plain_apply none x w r c
  rw [← ofBits_sixty, ← ofBits_neg_sixty, ← Ideal.ofBits_one_f32, ← hm]
  rfl

open Cert.Pre_within_clip_KernelIdeal in
/-- The precondition on one device: every entry of the product is within sixty of zero. -/
theorem pre_at [Facts] (x : FVec Ideal S256x4096 .f32) (w : FVec Ideal S4096x8192 .f32) (h : fn (F := Ideal) x w = fun _ => 1#1) (r : Fin 256) (c : Fin 8192) :
    max (dot x w r c) (-(dot x w r c)) ≤ ((60 : ℝ) : EReal) := by
  have hd : dot_S256x4096_S4096x8192_S256x8192_1_0_0_1_n_n = DotDims.plain 256 4096 8192 := rfl
  have hm : Host.dotGeneral dot_S256x4096_S4096x8192_S256x8192_1_0_0_1_n_n none x w (ValueIdx.ix2 r c) = dot x w r c := by
    rw [hd]; exact StackMember.dotGeneral_plain_apply none x w r c
  generalize hy : Host.dotGeneral dot_S256x4096_S4096x8192_S256x8192_1_0_0_1_n_n none x w = y at hm
  have h' : Host.reduce IntOp.andi (cmpf .ole (Host.absf y) (broadcastInDim S256x8192 ![] Facts.bcast_S_S256x8192 (constant (F := Ideal) S_ .f32 0x42700000#32)))
      (constantI S_ 1 1#1) Facts.reducesTo_S256x8192_S_d0_1 Facts.h_S_ = fun _ => 1#1 := by rw [← h, ← hy]; rfl
  have e := reduce_and _ _ _ _ (fun a => a.elim0) (fun i => funext fun a => a.elim0) (congrFun h' (fun a => a.elim0)) (ValueIdx.ix2 r c)
  have e' : Ideal.cmp .ole (max (y (ValueIdx.ix2 r c)) (-(y (ValueIdx.ix2 r c)))) (Ideal.ofBits .f32 0x42700000#32) = 1#1 := e
  rw [hm] at e'
  rw [ofBits_sixty] at e'
  by_contra hc
  simp [Ideal.cmp, hc] at e'

/-! ## The blocks -/

/-- The two sides index one entry the same way: row `256 * j + a` of the operand is row `a` of device `j`'s part, column `512 * p + b` of the second
operand is column `b` of its column block `p`. -/
theorem dot_block (x : FVec Ideal ⟨2, ![4096, 4096]⟩ .f32) (w : FVec Ideal ⟨2, ![4096, 8192]⟩ .f32) (j p : Fin 16) (a : Fin 256) (b : Fin 512)
    (r : Fin 4096) (c : Fin 8192) (hr : r.val = 256 * j.val + a.val) (hc : c.val = 512 * p.val + b.val) :
    dot (Layout.block ⟨2, ![256, 4096]⟩ ⟨2, ![4096, 4096]⟩ 0 16 j x) (Cert.KernelIdeal.Pf.wcol (F := Ideal) w p) a b = dot x w r c
      ∧ dot (Layout.block ⟨2, ![256, 4096]⟩ ⟨2, ![4096, 4096]⟩ 0 16 j x) w a c = dot x w r c := by
  have hx (k : Fin 4096) : Layout.block ⟨2, ![256, 4096]⟩ ⟨2, ![4096, 4096]⟩ 0 16 j x (by decide) (ValueIdx.ix2 a k) = x (ValueIdx.ix2 r k) := by
    rw [Layout.block_apply]
    congr 1
    funext q
    match q with
    | ⟨0, _⟩ => exact Fin.ext (show j.val * 256 + a.val = r.val by omega)
    | ⟨1, _⟩ => rfl
  have hw (k : Fin 4096) : Cert.KernelIdeal.Pf.wcol (F := Ideal) w p (ValueIdx.ix2 k b) = w (ValueIdx.ix2 k c) := by
    unfold Cert.KernelIdeal.Pf.wcol
    congr 1
    funext q
    match q with
    | ⟨0, _⟩ => rfl
    | ⟨1, _⟩ => exact Fin.ext (show 512 * p.val + b.val = c.val by omega)
  unfold dot
  exact ⟨Finset.sum_congr rfl fun k _ => by rw [hx, hw], Finset.sum_congr rfl fun k _ => by rw [hx]⟩

open Cert.KernelIdeal in
/-- What the kernel leaves on device `p` is block `p` of the reference's result. -/
theorem out_eq [Cert.Pre_within_clip_KernelIdeal.Facts] (m : (ℓ : Loc nD τ sig) → Buf (Elt Ideal) ℓ) (x : FVec Ideal ⟨2, ![4096, 4096]⟩ .f32) (w : FVec Ideal ⟨2, ![4096, 8192]⟩ .f32)
    (hx : ∀ c : Dev nD, m ((c.tc : Thread nD τ).loc main_arg0) = Layout.block ⟨2, ![256, 4096]⟩ ⟨2, ![4096, 4096]⟩ 0 16 c x)
    (hw : ∀ c : Dev nD, m ((c.tc : Thread nD τ).loc main_arg1) = w)
    (hpre : ∀ c : Dev nD, Cert.Pre_within_clip_KernelIdeal.fn (F := Ideal) (m ((c.tc : Thread nD τ).loc main_arg0)) (m ((c.tc : Thread nD τ).loc main_arg1)) = fun _ => 1#1)
    (p : Dev nD) : Pf.OUT m p = Layout.block ⟨2, ![4096, 512]⟩ ⟨2, ![4096, 8192]⟩ 1 16 p (refOut x w) := by
  funext i
  have h0 : (i 0).val < 4096 := (i 0).isLt
  have h1 : (i 1).val < 512 := (i 1).isLt
  have hp : p.val < 16 := p.isLt
  obtain ⟨j, hj⟩ : ∃ j : Fin 16, j.val = (i 0).val / 256 := ⟨⟨(i 0).val / 256, by omega⟩, rfl⟩
  obtain ⟨a, ha⟩ : ∃ a : Fin 256, a.val = (i 0).val % 256 := ⟨⟨(i 0).val % 256, by omega⟩, rfl⟩
  obtain ⟨b, hb⟩ : ∃ b : Fin 512, b.val = (i 1).val := ⟨⟨(i 1).val, h1⟩, rfl⟩
  obtain ⟨r, hr⟩ : ∃ r : Fin 4096, r.val = (i 0).val := ⟨⟨(i 0).val, h0⟩, rfl⟩
  obtain ⟨c, hc⟩ : ∃ c : Fin 8192, c.val = 512 * p.val + (i 1).val := ⟨⟨512 * p.val + (i 1).val, by omega⟩, rfl⟩
  have hl : Pf.OUT m p i = Pf.blk m j p (ValueIdx.ix2 a b) := by
    have e1 : (⟨(i 0).val / 256, by show _ < 16; omega⟩ : Dev nD) = j := Fin.ext hj.symm
    have e2 : ((fun | 0 => ⟨(i 0).val % 256, Nat.mod_lt _ (by decide)⟩ | 1 => ⟨(i 1).val, (i 1).isLt⟩ : S256x512.Idx)) = ValueIdx.ix2 a b := by
      funext q
      match q with
      | ⟨0, _⟩ => exact Fin.ext ha.symm
      | ⟨1, _⟩ => exact Fin.ext hb.symm
    rw [← e1, ← e2]; rfl
  have hrr : Layout.block ⟨2, ![4096, 512]⟩ ⟨2, ![4096, 8192]⟩ 1 16 p (refOut x w) (by decide) i = refOut x w (ValueIdx.ix2 r c) := by
    rw [Layout.block_apply]
    congr 1
    funext q
    match q with
    | ⟨0, _⟩ => exact Fin.ext hr.symm
    | ⟨1, _⟩ => exact Fin.ext (show p.val * 512 + (i 1).val = c.val by omega)
  obtain ⟨d1, d2⟩ := dot_block x w j p a b r c (by omega) (by omega)
  have hq := pre_at _ _ (hpre j) a c
  rw [hx, hw, d2] at hq
  rw [hl, hrr, refOut_at]
  unfold Pf.blk
  rw [hx, hw, pay_at, d1]
  exact entry _ hq

end Cert.Value
-- ==== Proof.lean ====
/-
  The certificate's claim, put together: the runs of the three programs (Proof/Kernel/Run.lean, Proof/KernelIdeal/Run.lean and the generated run of the
  reference), and the mathematics of the result (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

@[expose] public section

noncomputable section

namespace Cert.Proof

open Idealize.ShloMosaic Idealize.SL.Sem

/-- What the precondition states of its own operations' shapes, on a device's part and on the whole. -/
instance preFacts : Cert.Pre_within_clip_KernelIdeal.Facts where
  bcast_S_S256x8192 := by decide
  reducesTo_S256x8192_S_d0_1 := by decide
  h_S_ := by decide
  dot_S256x4096_S4096x8192_S256x8192_1_0_0_1_n_n_wf := by decide
instance preFactsRef : Cert.Pre_within_clip_ReferenceIdeal.Facts where
  bcast_S_S4096x8192 := by decide
  reducesTo_S4096x8192_S_d0_1 := by decide
  h_S_ := by decide
  dot_S4096x4096_S4096x8192_S4096x8192_1_0_0_1_n_n_wf := by decide

/-- The kernel as compiled. -/
theorem frame_kernel : Cert.quiescent_Kernel := fun m g _ =>
  (θ_run Cert.Kernel.defs _ _).mono (fun _ h => ⟨fun c => (h.1 c).2, h.2⟩) (Cert.Kernel.Pf.run_main (F := Bits) m g)

/-- The kernel over the reals, with the precondition and without. -/
theorem frame_ideal : Cert.quiescent_KernelIdeal := fun m g _ =>
  (θ_run Cert.KernelIdeal.defs _ _).mono (fun _ h => ⟨fun c => (h.1 c).2, h.2⟩) (Cert.KernelIdeal.Pf.run_main (F := Ideal) m g)
theorem frame_ideal_pre : Cert.quiescent_KernelIdeal_pre_within_clip_KernelIdeal := fun m g _ => frame_ideal m g trivial

/-- The reference, which has no semaphore at all. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_ref_pre : Cert.quiescent_ReferenceIdeal_pre_within_clip_ReferenceIdeal := fun m g _ => frame_ref m g trivial

/-- Each device's result is its block of the reference's. -/
theorem algebraic : Cert.algebraic_KernelIdeal_ReferenceIdeal_pre_within_clip_KernelIdeal := by
  intro m g m' g' hpre hin
  refine ⟨Cert.Value.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.Value.out_eq m _ _ (fun c => (hin c).1) (fun c => (hin c).2) hpre c), (h.1 c).2⟩)
      (Cert.KernelIdeal.Pf.run_main (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts, preFacts, preFactsRef,
  frame_kernel, frame_ideal, frame_ideal_pre, frame_ref, frame_ref_pre, trivial, algebraic⟩

end Cert.Proof

end
